-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S21x1024x5120 : Shape := ⟨3, ![21, 1024, 5120]⟩
abbrev S5120 : Shape := ⟨1, ![5120]⟩
abbrev S21504x5120 : Shape := ⟨2, ![21504, 5120]⟩
abbrev S1x5120 : Shape := ⟨2, ![1, 5120]⟩
abbrev S84x2x128 : Shape := ⟨3, ![84, 2, 128]⟩
abbrev S256x5120 : Shape := ⟨2, ![256, 5120]⟩
abbrev S1x2x128 : Shape := ⟨3, ![1, 2, 128]⟩
abbrev S32x5120 : Shape := ⟨2, ![32, 5120]⟩
abbrev S256x128 : Shape := ⟨2, ![256, 128]⟩
abbrev S32x128 : Shape := ⟨2, ![32, 128]⟩
abbrev S32x256 : Shape := ⟨2, ![32, 256]⟩
abbrev S32 : Shape := ⟨1, ![32]⟩
abbrev S32x1 : Shape := ⟨2, ![32, 1]⟩
abbrev S1x256 : Shape := ⟨2, ![1, 256]⟩
abbrev S128x128 : Shape := ⟨2, ![128, 128]⟩
abbrev S128 : Shape := ⟨1, ![128]⟩
abbrev S1x128 : Shape := ⟨2, ![1, 128]⟩
abbrev S1x1x128 : Shape := ⟨3, ![1, 1, 128]⟩
abbrev S21x1024x1 : Shape := ⟨3, ![21, 1024, 1]⟩

abbrev nBuf : Space → Nat
  | .hbm => 14
  | .vmem => 16
  | .smem => 0
  | _ => 0

abbrev bufTy : (tb : Table) → Fin (tcTables nBuf tb) → BufTy
  | .hbm, ⟨0, _⟩ => ⟨S21x1024x5120, .bf16⟩
  | .hbm, ⟨1, _⟩ => ⟨S21x1024x5120, .bf16⟩
  | .hbm, ⟨2, _⟩ => ⟨S5120, .bf16⟩
  | .hbm, ⟨3, _⟩ => ⟨S21504x5120, .bf16⟩
  | .hbm, ⟨4, _⟩ => ⟨S21504x5120, .bf16⟩
  | .hbm, ⟨5, _⟩ => ⟨S1x5120, .bf16⟩
  | .hbm, ⟨6, _⟩ => ⟨S21504x5120, .bf16⟩
  | .hbm, ⟨7, _⟩ => ⟨S21504x5120, .i8⟩
  | .hbm, ⟨8, _⟩ => ⟨S84x2x128, .f32⟩
  | .hbm, ⟨9, _⟩ => ⟨S84x2x128, .i32⟩
  | .hbm, ⟨10, _⟩ => ⟨S21x1024x5120, .bf16⟩
  | .hbm, ⟨11, _⟩ => ⟨S21x1024x5120, .i8⟩
  | .hbm, ⟨12, _⟩ => ⟨S21x1024x1, .f32⟩
  | .hbm, ⟨13, _⟩ => ⟨S21x1024x1, .i32⟩
  | .local _ .vmem, ⟨0, _⟩ => ⟨S256x5120, .bf16⟩
  | .local _ .vmem, ⟨1, _⟩ => ⟨S256x5120, .bf16⟩
  | .local _ .vmem, ⟨2, _⟩ => ⟨S256x5120, .bf16⟩
  | .local _ .vmem, ⟨3, _⟩ => ⟨S256x5120, .bf16⟩
  | .local _ .vmem, ⟨4, _⟩ => ⟨S1x5120, .bf16⟩
  | .local _ .vmem, ⟨5, _⟩ => ⟨S256x5120, .bf16⟩
  | .local _ .vmem, ⟨6, _⟩ => ⟨S256x5120, .bf16⟩
  | .local _ .vmem, ⟨7, _⟩ => ⟨S256x5120, .i8⟩
  | .local _ .vmem, ⟨8, _⟩ => ⟨S256x5120, .i8⟩
  | .local _ .vmem, ⟨9, _⟩ => ⟨S1x2x128, .f32⟩
  | .local _ .vmem, ⟨10, _⟩ => ⟨S1x2x128, .f32⟩
  | .local _ .vmem, ⟨11, _⟩ => ⟨S1x2x128, .i32⟩
  | .local _ .vmem, ⟨12, _⟩ => ⟨S1x2x128, .i32⟩
  | .local _ .vmem, ⟨13, _⟩ => ⟨S32x5120, .f32⟩
  | .local _ .vmem, ⟨14, _⟩ => ⟨S256x128, .f32⟩
  | .local _ .vmem, ⟨15, _⟩ => ⟨S256x128, .f32⟩
  | _, _ => ⟨S21x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![84], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c32_i32 : BitVec 32 := 32#32
  let v38 : BitVec 32 := Scalar.muli arg11 c32_i32
  v38
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v38 : BitVec 32 := Scalar.muli arg11 c32_i32
  let v39 : BitVec 32 := v38
  let v41 : Index := Scalar.indexCast v39
  let c0_26 : Index := 0#32
  ![v41.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v38 : BitVec 32 := Scalar.muli arg11 c32_i32
  let v39 : BitVec 32 := v38
  let v59 : Index := Scalar.indexCast v39
  let c256 : Index := 256#32
  ![v59.toNat, 256]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v38 : BitVec 32 := Scalar.muli arg11 c32_i32
  let v39 : BitVec 32 := v38
  let v77 : Index := Scalar.indexCast v39
  let c512 : Index := 512#32
  ![v77.toNat, 512]
def k0_off4 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v38 : BitVec 32 := Scalar.muli arg11 c32_i32
  let v39 : BitVec 32 := v38
  let v95 : Index := Scalar.indexCast v39
  let c768 : Index := 768#32
  ![v95.toNat, 768]
def k0_off5 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v38 : BitVec 32 := Scalar.muli arg11 c32_i32
  let v39 : BitVec 32 := v38
  let v113 : Index := Scalar.indexCast v39
  let c1024 : Index := 1024#32
  ![v113.toNat, 1024]
def k0_off6 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v38 : BitVec 32 := Scalar.muli arg11 c32_i32
  let v39 : BitVec 32 := v38
  let v131 : Index := Scalar.indexCast v39
  let c1280 : Index := 1280#32
  ![v131.toNat, 1280]
def k0_off7 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v38 : BitVec 32 := Scalar.muli arg11 c32_i32
  let v39 : BitVec 32 := v38
  let v149 : Index := Scalar.indexCast v39
  let c1536 : Index := 1536#32
  ![v149.toNat, 1536]
def k0_off8 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v38 : BitVec 32 := Scalar.muli arg11 c32_i32
  let v39 : BitVec 32 := v38
  let v167 : Index := Scalar.indexCast v39
  let c1792 : Index := 1792#32
  ![v167.toNat, 1792]
def k0_off9 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v38 : BitVec 32 := Scalar.muli arg11 c32_i32
  let v39 : BitVec 32 := v38
  let v185 : Index := Scalar.indexCast v39
  let c2048 : Index := 2048#32
  ![v185.toNat, 2048]
def k0_off10 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v38 : BitVec 32 := Scalar.muli arg11 c32_i32
  let v39 : BitVec 32 := v38
  let v203 : Index := Scalar.indexCast v39
  let c2304 : Index := 2304#32
  ![v203.toNat, 2304]
def k0_off11 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v38 : BitVec 32 := Scalar.muli arg11 c32_i32
  let v39 : BitVec 32 := v38
  let v221 : Index := Scalar.indexCast v39
  let c2560 : Index := 2560#32
  ![v221.toNat, 2560]
def k0_off12 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v38 : BitVec 32 := Scalar.muli arg11 c32_i32
  let v39 : BitVec 32 := v38
  let v239 : Index := Scalar.indexCast v39
  let c2816 : Index := 2816#32
  ![v239.toNat, 2816]
def k0_off13 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v38 : BitVec 32 := Scalar.muli arg11 c32_i32
  let v39 : BitVec 32 := v38
  let v257 : Index := Scalar.indexCast v39
  let c3072 : Index := 3072#32
  ![v257.toNat, 3072]
def k0_off14 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v38 : BitVec 32 := Scalar.muli arg11 c32_i32
  let v39 : BitVec 32 := v38
  let v275 : Index := Scalar.indexCast v39
  let c3328 : Index := 3328#32
  ![v275.toNat, 3328]
def k0_off15 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v38 : BitVec 32 := Scalar.muli arg11 c32_i32
  let v39 : BitVec 32 := v38
  let v293 : Index := Scalar.indexCast v39
  let c3584 : Index := 3584#32
  ![v293.toNat, 3584]
def k0_off16 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v38 : BitVec 32 := Scalar.muli arg11 c32_i32
  let v39 : BitVec 32 := v38
  let v311 : Index := Scalar.indexCast v39
  let c3840 : Index := 3840#32
  ![v311.toNat, 3840]
def k0_off17 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v38 : BitVec 32 := Scalar.muli arg11 c32_i32
  let v39 : BitVec 32 := v38
  let v329 : Index := Scalar.indexCast v39
  let c4096 : Index := 4096#32
  ![v329.toNat, 4096]
def k0_off18 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v38 : BitVec 32 := Scalar.muli arg11 c32_i32
  let v39 : BitVec 32 := v38
  let v347 : Index := Scalar.indexCast v39
  let c4352 : Index := 4352#32
  ![v347.toNat, 4352]
def k0_off19 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v38 : BitVec 32 := Scalar.muli arg11 c32_i32
  let v39 : BitVec 32 := v38
  let v365 : Index := Scalar.indexCast v39
  let c4608 : Index := 4608#32
  ![v365.toNat, 4608]
def k0_off20 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v38 : BitVec 32 := Scalar.muli arg11 c32_i32
  let v39 : BitVec 32 := v38
  let v383 : Index := Scalar.indexCast v39
  let c4864 : Index := 4864#32
  ![v383.toNat, 4864]
def k0_off21 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v38 : BitVec 32 := Scalar.muli arg11 c32_i32
  let v39 : BitVec 32 := v38
  let v870 : Index := Scalar.indexCast v39
  let c0_179 : Index := 0#32
  ![v870.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5120 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S21x1024x5120 : Shape := ⟨3, ![21, 1024, 5120]⟩
abbrev S5120 : Shape := ⟨1, ![5120]⟩
abbrev S21x1024x1 : Shape := ⟨3, ![21, 1024, 1]⟩
abbrev S21x1024 : Shape := ⟨2, ![21, 1024]⟩
abbrev S1x1x5120 : Shape := ⟨3, ![1, 1, 5120]⟩

abbrev nBuf : Space → Nat
  | .hbm => 7
  | .vmem => 7
  | .smem => 0
  | _ => 0

abbrev bufTy : (tb : Table) → Fin (tcTables nBuf tb) → BufTy
  | .hbm, ⟨0, _⟩ => ⟨S21x1024x5120, .bf16⟩
  | .hbm, ⟨1, _⟩ => ⟨S21x1024x5120, .bf16⟩
  | .hbm, ⟨2, _⟩ => ⟨S5120, .bf16⟩
  | .hbm, ⟨3, _⟩ => ⟨S21x1024x5120, .bf16⟩
  | .hbm, ⟨4, _⟩ => ⟨S21x1024x5120, .i8⟩
  | .hbm, ⟨5, _⟩ => ⟨S21x1024x1, .f32⟩
  | .hbm, ⟨6, _⟩ => ⟨S21x1024x1, .i32⟩
  | .local _ .vmem, ⟨0, _⟩ => ⟨S21x1024x5120, .bf16⟩
  | .local _ .vmem, ⟨1, _⟩ => ⟨S21x1024x5120, .bf16⟩
  | .local _ .vmem, ⟨2, _⟩ => ⟨S5120, .bf16⟩
  | .local _ .vmem, ⟨3, _⟩ => ⟨S21x1024x5120, .bf16⟩
  | .local _ .vmem, ⟨4, _⟩ => ⟨S21x1024x5120, .i8⟩
  | .local _ .vmem, ⟨5, _⟩ => ⟨S21x1024x1, .f32⟩
  | .local _ .vmem, ⟨6, _⟩ => ⟨S21x1024x1, .i32⟩
  | _, _ => ⟨S21x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S21x1024x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S21x1024x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S21x1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S21x1024x5120 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S21x1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S21x1024x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.FrameBody.lean ====
module
public import proofs.«01_k».proof.Proof.Gen.Kernel.Skeleton
public import proofs.«01_k».proof.Proof.Gen.Kernel.Loops
public import proofs.«01_k».proof.Proof.Gen.Kernel.Frame
public import Idealize.ShloMosaic.Lib.Tactic

/-! The kernel body for any values: it reads its three operand blocks and may leave anything in its outputs and scratch. -/

@[expose] public section
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a grid point, for any floating-point values: the operand blocks and the weights come back as they were, the
outputs and the scratch at some contents. -/
theorem kernelRun (c : Dev nD) (i : grid0.Coords) (arg1 : Memref sig .tc .vmem S256x5120 .bf16) (harg1 : arg1.IsWhole) (arg2 : Memref sig .tc .vmem S256x5120 .bf16) (harg2 : arg2.IsWhole) (arg3 : Memref sig .tc .vmem S1x5120 .bf16) (harg3 : arg3.IsWhole) (arg4 : Memref sig .tc .vmem S256x5120 .bf16) (harg4 : arg4.IsWhole) (arg5 : Memref sig .tc .vmem S256x5120 .i8) (harg5 : arg5.IsWhole) (arg6 : Memref sig .tc .vmem S1x2x128 .f32) (harg6 : arg6.IsWhole) (arg7 : Memref sig .tc .vmem S1x2x128 .i32) (harg7 : arg7.IsWhole) (arg8 : Memref sig .tc .vmem S32x5120 .f32) (harg8 : arg8.IsWhole) (arg9 : Memref sig .tc .vmem S256x128 .f32) (harg9 : arg9.IsWhole) (arg10 : Memref sig .tc .vmem S256x128 .f32) (harg10 : arg10.IsWhole)
    (x0 : Vec F S256x5120 .bf16) (x1 : Vec F S256x5120 .bf16) (x2 : Vec F S1x5120 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_add_rmsnorm_quant i arg1 harg1 arg2 harg2 arg3 harg3 arg4 harg4 arg5 harg5 arg6 harg6 arg7 harg7 arg8 harg8 arg9 harg9 arg10 harg10) K := by
    intro E K
    simp only [cc0_add_rmsnorm_quant_eq_skeleton]; unfold cc0_add_rmsnorm_quant_skel
    simp only [k0_part25_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Hand
end
end
-- ==== Proof.FrameRun.lean ====
module
public import proofs.«01_k».proof.Proof.FrameBody
public import Idealize.ShloMosaic.Lib.Pipeline.FrameSuffix
public import Idealize.ShloMosaic.Lib.Claim

/-! The frame of the bit-exact kernel: it runs, leaves its arguments as they were and its counters at zero. Nothing is
named of its outputs. -/

@[expose] public section
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging buffer of the first operand at a point. -/
abbrev ms0 (t : Fin cfg0.N) : Memref sig .tc .vmem S256x5120 .bf16 := win0_0.stage (cfg0.slots t 0)
/-- The staging buffer of the second operand at a point. -/
abbrev ms1 (t : Fin cfg0.N) : Memref sig .tc .vmem S256x5120 .bf16 := win0_1.stage (cfg0.slots t 1)
/-- The staging buffer of the weights at a point. -/
abbrev ms2 (t : Fin cfg0.N) : Memref sig .tc .vmem S1x5120 .bf16 := win0_2.stage (cfg0.slots t 2)
/-- The staging buffer of the sum at a point. -/
abbrev ms3 (t : Fin cfg0.N) : Memref sig .tc .vmem S256x5120 .bf16 := win0_3.stage (cfg0.slots t 3)
/-- The staging buffer of the codes at a point. -/
abbrev ms4 (t : Fin cfg0.N) : Memref sig .tc .vmem S256x5120 .i8 := win0_4.stage (cfg0.slots t 4)
/-- The staging buffer of the scales at a point. -/
abbrev ms5 (t : Fin cfg0.N) : Memref sig .tc .vmem S1x2x128 .f32 := win0_5.stage (cfg0.slots t 5)
/-- The staging buffer of the zero points at a point. -/
abbrev ms6 (t : Fin cfg0.N) : Memref sig .tc .vmem S1x2x128 .i32 := win0_6.stage (cfg0.slots t 6)
/-- The scratch tile. -/
abbrev sc0 : Memref sig .tc .vmem S32x5120 .f32 := Memref.whole cc0_scratch0
/-- The scratch of the scales. -/
abbrev sc1 : Memref sig .tc .vmem S256x128 .f32 := Memref.whole cc0_scratch1
/-- The scratch of the zero points. -/
abbrev sc2 : Memref sig .tc .vmem S256x128 .f32 := Memref.whole cc0_scratch2

/-- The invariant between points: the scratch buffers at some contents, and the generator register. -/
theorem inv_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The buffers that the host operations after the region write: the four results. -/
def results : Finset (Ref sig .tc) := {main_v4, main_v5, main_v6, main_v7}
/-- The host operations after the region write nothing else. -/
theorem later_writes : ∀ ops ∈ ([hostOps1] : List (List (HloOp τ sig (Elt F)))), ∀ op ∈ ops,
    ∀ b : Ref sig .tc, Proc.devRef .tc b ∈ op.writes → b ∈ results := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- From a run that leaves the arrays outside the results as the region found them: the arguments end unchanged. -/
theorem unchanged_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat results (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c)⟩) h

/-- The windows of which nothing is named: the four outputs. -/
def outs : Fin 7 → Bool := fun w => w.val == 3 || w.val == 4 || w.val == 5 || w.val == 6

/-- The pipeline's proof data: each operand keeps its block, and of the outputs nothing is named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- Every array starts as the region finds it. -/
theorem A_eq (c : Dev nD) (w : Fin cfg0.W) : (dats m 0 c).A w = V m c (Pipeline.arrRef spec0 w) := by
  dsimp only [dats]

/-- The first operand keeps its block. -/
theorem after_0 (c : Dev nD) (t : Fin cfg0.N) : (dats m 0 c).after 0 t = iblk m c 0 t := by dsimp only [dats]
/-- The second operand keeps its block. -/
theorem after_1 (c : Dev nD) (t : Fin cfg0.N) : (dats m 0 c).after 1 t = iblk m c 1 t := by dsimp only [dats]
/-- The weights keep theirs. -/
theorem after_2 (c : Dev nD) (t : Fin cfg0.N) : (dats m 0 c).after 2 t = iblk m c 2 t := by dsimp only [dats]

/-- The first operand's buffer holds its block before the body. -/
theorem before_0 (c : Dev nD) (t : Fin cfg0.N) (d) : (dats m 0 c).before 0 t d = iblk m c 0 t :=
  before0_0_of m (dats m 0 c) (A_eq m c 0) (after_0 m c) t d
/-- The second operand's too. -/
theorem before_1 (c : Dev nD) (t : Fin cfg0.N) (d) : (dats m 0 c).before 1 t d = iblk m c 1 t :=
  before0_1_of m (dats m 0 c) (A_eq m c 1) (after_1 m c) t d
/-- And the weights'. -/
theorem before_2 (c : Dev nD) (t : Fin cfg0.N) (d) : (dats m 0 c).before 2 t d = iblk m c 2 t :=
  before0_2_of m (dats m 0 c) (A_eq m c 2) (after_2 m c) t d

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare d)
    ∗ (∃ d, owns (c : Thread nD τ) (ms4 t) fullShare d)
    ∗ (∃ d, owns (c : Thread nD τ) (ms5 t) fullShare d)
    ∗ (∃ d, owns (c : Thread nD τ) (ms6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ (∃ d, owns (c : Thread nD τ) (ms3 t) fullShare d)
    ∗ (∃ d, owns (c : Thread nD τ) (ms4 t) fullShare d)
    ∗ (∃ d, owns (c : Thread nD τ) (ms5 t) fullShare d)
    ∗ (∃ d, owns (c : Thread nD τ) (ms6 t) fullShare d))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2]
  rw [show (dats m 0 c).Φ t.castSucc = Pipeline.ΦA spec0 c from rfl, inv_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun c (grid0.coords t) _ _ _ _ _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body at a point is the kernel body on that point's buffers. -/
theorem defs_row (t : Fin cfg0.N) :
    defs₀ (F := F) .tc cfg0.body (cfg0.bodyArgs t (cfg0.slots t)) = bodyAt0 t := by
  unfold defs₀; rw [Defs.onTc_tc]

/-- The pipeline's obligation of the body, the outputs' contents left open. -/
theorem body_obligation (c : Dev nD) : BodyObligation (dats (F := F) m 0 c) (defs₀ (F := F)) Variants.none () Set.univ outs := fun t => by
  rw [bigSep_W0, bigSep_W0, defs_row]
  exact triple_restated (sound_body m c t) rfl .rfl fun _ => .rfl

set_option backward.isDefEq.respectTransparency.types false in
set_option maxHeartbeats 800000 in
/-- The run: every array of an operand ends as it was, nothing is said of the outputs, every buffer that no later host operation
writes ends as the region found it; the counters end at zero. -/
theorem run_main_quiescent : θ_run defs (onTc (τ := τ) (main (F := F))) (s₀ m ρ) (fun r => (Pipeline.RDat.FramePostR (cfgs 0) (fun c => (dats m 0 c).toRForget outs) results (V m)) r ∧ r.2.sem = fun _ => 0) :=
  Pipeline.θ_run_frame_around_T_forget (Q' := _) cfgs (dats m) (0 : Fin 1) launch0 defs₀ Variants.none outs results m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := later_writes)
    (hmain := hmain m Variants.none) (hA := A_eq m) (hΦ := fun _ _ => rfl)

/-- The same without the counters. -/
theorem run_main : θ_run defs (onTc (τ := τ) (main (F := F))) (s₀ m ρ) (Pipeline.RDat.FramePostR (cfgs 0) (fun c => (dats m 0 c).toRForget outs) results (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  unchanged_of m ρ (fun c => (dats m 0 c).toRForget outs) (A_eq m) (run_main m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Hand
end
end
-- ==== Proof.RowMath.lean ====
module
public import Idealize.ShloMosaic.PureOps.Ideal
public import Idealize.ShloMosaic.Lib.Pointwise

/-! One row of the computation on extended reals: what the residual sum, the root-mean-square
normalisation and the quantisation of a row of 5120 numbers are. -/

@[expose] public section
noncomputable section
namespace Cert.Row
open Idealize.ShloMosaic

/-- A row of 5120 numbers. -/
abbrev R := Fin 5120 → EReal

/-- The smallest code, `-128`. -/
def cLo : EReal := Ideal.ofBits .f32 0xC3000000#32
/-- The largest code, `127`. -/
def cHi : EReal := Ideal.ofBits .f32 0x42FE0000#32

/-- The reciprocal of the root mean square from a sum of squares. -/
def invOf (q : EReal) : EReal :=
  Ideal.rsqrt (Ideal.div q (Ideal.ofBits .f32 0x45A00000#32) + Ideal.ofBits .f32 0x358637BD#32)

/-- The reciprocal of the root mean square of a row. -/
def inv (s : R) : EReal := invOf (∑ k, s k * s k)

/-- The normalised row, times the weights. -/
def norm (s g : R) : R := fun c => s c * inv s * g c

/-- The minimum of a row. -/
def lo (y : R) : EReal := Finset.univ.fold min (Ideal.ofBits .f32 0x7F800000#32) y
/-- The maximum of a row. -/
def hi (y : R) : EReal := Finset.univ.fold max (Ideal.ofBits .f32 0xFF800000#32) y

/-- The scale from a minimum and a maximum: a 255th of the range, and one for an empty range. -/
def scaleOf (l h : EReal) : EReal := if h = l then 1 else Ideal.div (h - l) (Ideal.ofBits .f32 0x437F0000#32)

/-- The zero point from a minimum and a scale. -/
def zpOf (l s : EReal) : EReal :=
  min cHi (max cLo (Ideal.liftRound Ideal.roundHalfEven (cLo - Ideal.div l s)))

/-- The number whose integer value is the code of `y`. -/
def clipOf (y s z : EReal) : EReal :=
  min cHi (max cLo (Ideal.liftRound Ideal.roundHalfEven (Ideal.div y s) + z))

/-- A row's scale. -/
def scale (y : R) : EReal := scaleOf (lo y) (hi y)
/-- A row's zero point. -/
def zp (y : R) : EReal := zpOf (lo y) (scale y)
/-- A row's codes. -/
def code (y : R) (c : Fin 5120) : BitVec 8 := Ideal.fptosi 8 (clipOf (y c) (scale y) (zp y))
/-- A row's zero point as an integer. -/
def zpi (y : R) : BitVec 32 := Ideal.fptosi 32 (zp y)

/-! ## Rounding a code once more changes nothing -/

/-- An integer or an infinity. -/
def Whole (x : EReal) : Prop := x = ⊥ ∨ x = ⊤ ∨ ∃ n : ℤ, x = ((n : ℝ) : EReal)

/-- The smaller of two whole numbers is whole, -/
theorem Whole.min {x y : EReal} (hx : Whole x) (hy : Whole y) : Whole (min x y) := by
  rcases min_choice x y with h | h <;> rw [h] <;> assumption

/-- so is the larger, -/
theorem Whole.max {x y : EReal} (hx : Whole x) (hy : Whole y) : Whole (max x y) := by
  rcases max_choice x y with h | h <;> rw [h] <;> assumption

/-- and so is the sum. -/
theorem Whole.add {x y : EReal} (hx : Whole x) (hy : Whole y) : Whole (x + y) := by
  rcases hx with rfl | rfl | ⟨n, rfl⟩
  · exact .inl (EReal.bot_add _)
  · rcases hy with rfl | rfl | ⟨n, rfl⟩
    · exact .inl (EReal.add_bot _)
    · exact .inr (.inl rfl)
    · exact .inr (.inl (EReal.top_add_coe _))
  · rcases hy with rfl | rfl | ⟨p, rfl⟩
    · exact .inl (EReal.add_bot _)
    · exact .inr (.inl (EReal.coe_add_top _))
    · exact .inr (.inr ⟨n + p, by push_cast; rfl⟩)

/-- A rounded number is whole. -/
theorem whole_round (x : EReal) : Whole (Ideal.liftRound Ideal.roundHalfEven x) := by
  induction x with
  | bot => exact .inl rfl
  | top => exact .inr (.inl rfl)
  | coe r => exact .inr (.inr ⟨_, rfl⟩)

/-- Rounding leaves a whole number as it is. -/
theorem round_whole {x : EReal} (hx : Whole x) : Ideal.liftRound Ideal.roundHalfEven x = x := by
  rcases hx with rfl | rfl | ⟨n, rfl⟩
  · rfl
  · rfl
  · show ((Ideal.roundHalfEven (n : ℝ) : ℝ) : EReal) = _
    simp [Ideal.roundHalfEven]

/-- The smallest code is whole, -/
theorem whole_cLo : Whole cLo :=
  .inr (.inr ⟨-128, by unfold cLo; simp [Ideal.ofBits, Ideal.ieee, -EReal.coe_mul]; norm_num⟩)
/-- and the largest. -/
theorem whole_cHi : Whole cHi :=
  .inr (.inr ⟨127, by unfold cHi; simp [Ideal.ofBits, Ideal.ieee, -EReal.coe_mul]; norm_num⟩)

/-- A zero point is whole. -/
theorem whole_zpOf (l s : EReal) : Whole (zpOf l s) :=
  whole_cHi.min (whole_cLo.max (whole_round _))

/-- The number a code is taken from is whole already: rounding it again changes nothing. -/
theorem round_clipOf (y s : EReal) {z : EReal} (hz : Whole z) :
    Ideal.liftRound Ideal.roundHalfEven (clipOf y s z) = clipOf y s z :=
  round_whole (whole_cHi.min (whole_cLo.max ((whole_round _).add hz)))

end Cert.Row
end
end
-- ==== Proof.VecOps.lean ====
module
public import proofs.«01_k».proof.Proof.Gen.KernelIdeal.Skeleton
public import proofs.«01_k».proof.Proof.RowMath
public import Idealize.ShloMosaic.Lib.Pointwise

/-! The vector operations of one trip, as functions of whole tiles (32 rows by 256 columns), and what
each of them is at an index. -/

@[expose] public section
set_option maxRecDepth 16384
noncomputable section
namespace Cert.KernelIdeal.Hand
open Idealize.ShloMosaic Cert.KernelIdeal Cert.KernelIdeal.Gen

/-- A tile's squares, its two halves of 128 lanes added onto the accumulator. -/
def accT (acc : FVec Ideal S32x128 .f32) (t : FVec Ideal S32x256 .bf16) : FVec Ideal S32x128 .f32 :=
  addf (addf acc (extractStridedSlice S32x128 ![0, 0] (mulf (extf .f32 t bitsLt_bf16_f32) (extf .f32 t bitsLt_bf16_f32)) slices_S32x256_o0_0_S32x128))
    (extractStridedSlice S32x128 ![0, 128] (mulf (extf .f32 t bitsLt_bf16_f32) (extf .f32 t bitsLt_bf16_f32)) slices_S32x256_o0_128_S32x128)

/-- The accumulator of squares at the start. -/
def acc0 : FVec Ideal S32x128 .f32 := broadcast S32x128 (Scalar.ofBits .f32 0x00000000#32 : Ideal .f32)

/-- The reciprocal root mean squares of the 32 rows, from the accumulator of squares. -/
def invT (acc : FVec Ideal S32x128 .f32) : FVec Ideal S32x1 .f32 :=
  rsqrt (addf (divf (shapeCast S32x1 (multiReduction .add [1] S32 acc 0x00000000#32 reduces_S32x128_S32 (.inl rfl) rfl) shapeCasts_S32_S32x1)
    (broadcast S32x1 (Scalar.ofBits .f32 0x45A00000#32 : Ideal .f32))) (broadcast S32x1 (Scalar.ofBits .f32 0x358637BD#32 : Ideal .f32)))

/-- The minimum accumulator after one more tile. -/
def minT (acc : FVec Ideal S32x128 .f32) (t : FVec Ideal S32x256 .f32) : FVec Ideal S32x128 .f32 :=
  minimumf (minimumf acc (extractStridedSlice S32x128 ![0, 0] t slices_S32x256_o0_0_S32x128))
    (extractStridedSlice S32x128 ![0, 128] t slices_S32x256_o0_128_S32x128)

/-- The maximum accumulator after one more tile. -/
def maxT (acc : FVec Ideal S32x128 .f32) (t : FVec Ideal S32x256 .f32) : FVec Ideal S32x128 .f32 :=
  maximumf (maximumf acc (extractStridedSlice S32x128 ![0, 0] t slices_S32x256_o0_0_S32x128))
    (extractStridedSlice S32x128 ![0, 128] t slices_S32x256_o0_128_S32x128)

/-- The sum of two tiles. -/
def addT (a b : FVec Ideal S32x256 .bf16) : FVec Ideal S32x256 .bf16 := k0_pay2 a b
/-- A tile of the normalised rows. -/
def normT (inv : FVec Ideal S32x1 .f32) (v : FVec Ideal S32x256 .bf16) (g : FVec Ideal S1x256 .bf16) : FVec Ideal S32x256 .f32 := k0_pay40 inv v g
/-- A tile of codes. -/
def codeT (s z : FVec Ideal S32x1 .f32) (y : FVec Ideal S32x256 .f32) : IVec S32x256 8 := k0_pay106 s z y

/-- The left and the right half of a tile's columns. -/
abbrev cl (l : Fin 128) : Fin 256 := ⟨l.val, by omega⟩
/-- The right half of a tile's columns. -/
abbrev cr (l : Fin 128) : Fin 256 := ⟨128 + l.val, by omega⟩

/-- An element of the sum of two tiles. -/
theorem addT_at (a b : FVec Ideal S32x256 .bf16) (r : Fin 32) (c : Fin 256) :
    addT a b (ix2 r c) = a (ix2 r c) + b (ix2 r c) := by
  unfold addT; pointwise [k0_pay2]

/-- An element of a tile of normalised rows. -/
theorem normT_at (inv : FVec Ideal S32x1 .f32) (v : FVec Ideal S32x256 .bf16) (g : FVec Ideal S1x256 .bf16) (r : Fin 32) (c : Fin 256) :
    normT inv v g (ix2 r c) = v (ix2 r c) * inv (ix2 r 0) * g (ix2 0 c) := by
  unfold normT; pointwise [k0_pay40]

/-- A lane of the accumulator of squares after one more tile. -/
theorem accT_at (acc : FVec Ideal S32x128 .f32) (t : FVec Ideal S32x256 .bf16) (r : Fin 32) (l : Fin 128) :
    accT acc t (ix2 r l) = acc (ix2 r l) + t (ix2 r (cl l)) * t (ix2 r (cl l)) + t (ix2 r (cr l)) * t (ix2 r (cr l)) := by
  pointwise [accT]

/-- A lane of the minimum accumulator after one more tile. -/
theorem minT_at (acc : FVec Ideal S32x128 .f32) (t : FVec Ideal S32x256 .f32) (r : Fin 32) (l : Fin 128) :
    minT acc t (ix2 r l) = min (min (acc (ix2 r l)) (t (ix2 r (cl l)))) (t (ix2 r (cr l))) := by
  pointwise [minT]

/-- A lane of the maximum accumulator after one more tile. -/
theorem maxT_at (acc : FVec Ideal S32x128 .f32) (t : FVec Ideal S32x256 .f32) (r : Fin 32) (l : Fin 128) :
    maxT acc t (ix2 r l) = max (max (acc (ix2 r l)) (t (ix2 r (cl l)))) (t (ix2 r (cr l))) := by
  pointwise [maxT]

/-- The accumulator of squares starts at zero. -/
theorem acc0_at (r : Fin 32) (l : Fin 128) : acc0 (ix2 r l) = 0 := by
  pointwise [acc0]

/-- A row's reciprocal root mean square comes from the sum over its lanes. -/
theorem invT_at (acc : FVec Ideal S32x128 .f32) (r : Fin 32) :
    invT acc (ix2 r 0) = Row.invOf (∑ l : Fin 128, acc (ix2 r l)) := by
  pointwise [invT, Row.invOf]

/-- A row's minimum is the minimum over its lanes. -/
theorem lo_at (acc : FVec Ideal S32x128 .f32) (r : Fin 32) :
    k0_pay100 acc (ix2 r 0) = Finset.univ.fold min (Ideal.ofBits .f32 0x7F800000#32) fun l => acc (ix2 r l) := by
  pointwise [k0_pay100]

/-- A row's scale comes from its minimum and the maximum over its lanes. -/
theorem scale_at (a b : FVec Ideal S32x128 .f32) (r : Fin 32) :
    k0_pay101 a b (ix2 r 0) = Row.scaleOf (k0_pay100 a (ix2 r 0)) (Finset.univ.fold max (Ideal.ofBits .f32 0xFF800000#32) fun l => b (ix2 r l)) := by
  unfold k0_pay101
  generalize k0_pay100 a = y
  pointwise [Row.scaleOf]

/-- A row's zero point comes from its minimum and its scale. -/
theorem zp_at (a b : FVec Ideal S32x128 .f32) (r : Fin 32) :
    k0_pay102 a b (ix2 r 0) = Row.zpOf (k0_pay100 a (ix2 r 0)) (k0_pay101 a b (ix2 r 0)) := by
  unfold k0_pay102
  generalize k0_pay100 a = y
  generalize k0_pay101 a b = z
  pointwise [Row.zpOf, Row.cLo, Row.cHi]

/-- The stored scales repeat each row's scale over the lanes. -/
theorem scaleT_at (a b : FVec Ideal S32x128 .f32) (r : Fin 32) (l : Fin 128) :
    k0_pay103 a b (ix2 r l) = k0_pay101 a b (ix2 r 0) := by
  unfold k0_pay103
  generalize k0_pay101 a b = z
  pointwise []

/-- The stored zero points repeat each row's zero point over the lanes. -/
theorem zpT_at (a b : FVec Ideal S32x128 .f32) (r : Fin 32) (l : Fin 128) :
    k0_pay104 a b (ix2 r l) = k0_pay102 a b (ix2 r 0) := by
  unfold k0_pay104
  generalize k0_pay102 a b = z
  pointwise []

/-- An element of a tile of codes. -/
theorem codeT_at (s z : FVec Ideal S32x1 .f32) (y : FVec Ideal S32x256 .f32) (r : Fin 32) (c : Fin 256) :
    codeT s z y (ix2 r c) = Ideal.fptosi 8 (Ideal.liftRound Ideal.roundHalfEven (Row.clipOf (y (ix2 r c)) (s (ix2 r 0)) (z (ix2 r 0)))) := by
  unfold codeT
  pointwise [k0_pay106, Row.clipOf, Row.cLo, Row.cHi]
  rfl

end Cert.KernelIdeal.Hand
end
end
-- ==== Proof.Folds.lean ====
module
public import proofs.«01_k».proof.Proof.VecOps

/-! Twenty tiles folded into 128 lanes, and the lanes reduced, are the reduction of the whole row. -/

@[expose] public section
set_option maxRecDepth 16384
noncomputable section
namespace Cert.KernelIdeal.Hand
open Idealize.ShloMosaic Cert.KernelIdeal Cert.KernelIdeal.Gen

/-- Column `c` of tile `j`, as a column of the whole row. -/
def col (j : Fin 20) (c : Fin 256) : Fin 5120 := ⟨256 * j.val + c.val, by omega⟩

/-- Every column is in a tile. -/
theorem exists_col (C : Fin 5120) : ∃ j c, col j c = C :=
  ⟨⟨C.val / 256, by omega⟩, ⟨C.val % 256, by omega⟩, Fin.ext (by show 256 * (C.val / 256) + C.val % 256 = C.val; omega)⟩

/-- Every column of a tile is a lane's left or right column. -/
theorem exists_lane (c : Fin 256) : ∃ l, cl l = c ∨ cr l = c := by
  by_cases h : c.val < 128
  · exact ⟨⟨c.val, h⟩, .inl rfl⟩
  · exact ⟨⟨c.val - 128, by omega⟩, .inr (Fin.ext (by show 128 + (c.val - 128) = c.val; omega))⟩

/-- The two halves of a tile's columns are all its columns. -/
theorem sum_halves (h : Fin 256 → EReal) : ∑ l : Fin 128, (h (cl l) + h (cr l)) = ∑ c, h c := by
  rw [Finset.sum_add_distrib]
  exact (Fin.sum_univ_add (a := 128) (b := 128) h).symm

/-- The columns of all tiles are the columns of the row. -/
theorem sum_cols (f : Fin 5120 → EReal) : ∑ j, ∑ c, f (col j c) = ∑ C, f C := by
  rw [← Finset.sum_product']
  refine Finset.sum_bij' (fun p _ => col p.1 p.2) (fun C _ => (⟨C.val / 256, by omega⟩, ⟨C.val % 256, by omega⟩)) ?_ ?_ ?_ ?_ ?_
  · intros; exact Finset.mem_univ _
  · intros; exact Finset.mem_univ _
  · rintro ⟨j, c⟩ _
    refine Prod.ext (Fin.ext ?_) (Fin.ext ?_)
    · show (256 * j.val + c.val) / 256 = j.val; omega
    · show (256 * j.val + c.val) % 256 = c.val; omega
  · intro C _
    exact Fin.ext (by show 256 * (C.val / 256) + C.val % 256 = C.val; omega)
  · intros; rfl

/-- A lane of the accumulator after some tiles: what it held, plus the squares of the lane's two columns in every tile. -/
theorem foldl_accT (ts : List (FVec Ideal S32x256 .bf16)) (z : FVec Ideal S32x128 .f32) (r : Fin 32) (l : Fin 128) :
    ts.foldl accT z (ix2 r l) = z (ix2 r l) + (ts.map fun t => t (ix2 r (cl l)) * t (ix2 r (cl l)) + t (ix2 r (cr l)) * t (ix2 r (cr l))).sum := by
  induction ts generalizing z with
  | nil => simp
  | cons t ts ih => rw [List.foldl_cons, ih, accT_at, List.map_cons, List.sum_cons, add_assoc, add_assoc, add_assoc]

/-- The lanes' sum of the folded squares is the sum of squares of the row. -/
theorem sum_foldl (T : Fin 20 → FVec Ideal S32x256 .bf16) (r : Fin 32) (s : Row.R)
    (hT : ∀ j c, T j (ix2 r c) = s (col j c)) :
    ∑ l : Fin 128, (List.ofFn T).foldl accT acc0 (ix2 r l) = ∑ C, s C * s C := by
  have h (l : Fin 128) : (List.ofFn T).foldl accT acc0 (ix2 r l)
      = ∑ j, (s (col j (cl l)) * s (col j (cl l)) + s (col j (cr l)) * s (col j (cr l))) := by
    rw [foldl_accT, acc0_at, zero_add, List.map_ofFn, List.sum_ofFn]
    simp only [Function.comp, hT]
  simp only [h]
  rw [Finset.sum_comm, ← sum_cols]
  exact Finset.sum_congr rfl fun j _ => sum_halves fun c => s (col j c) * s (col j c)

/-- A lower bound of a lane of folded minima is one of the start and of the lane's two columns in every tile. -/
theorem le_foldl_minT (x : EReal) (ts : List (FVec Ideal S32x256 .f32)) (z : FVec Ideal S32x128 .f32) (r : Fin 32) (l : Fin 128) :
    x ≤ ts.foldl minT z (ix2 r l) ↔ x ≤ z (ix2 r l) ∧ ∀ t ∈ ts, x ≤ t (ix2 r (cl l)) ∧ x ≤ t (ix2 r (cr l)) := by
  induction ts generalizing z with
  | nil => simp
  | cons t ts ih =>
    rw [List.foldl_cons, ih, minT_at, List.forall_mem_cons, le_min_iff, le_min_iff]; tauto

/-- An upper bound of a lane of folded maxima is one of the start and of the lane's two columns in every tile. -/
theorem foldl_maxT_le (x : EReal) (ts : List (FVec Ideal S32x256 .f32)) (z : FVec Ideal S32x128 .f32) (r : Fin 32) (l : Fin 128) :
    ts.foldl maxT z (ix2 r l) ≤ x ↔ z (ix2 r l) ≤ x ∧ ∀ t ∈ ts, t (ix2 r (cl l)) ≤ x ∧ t (ix2 r (cr l)) ≤ x := by
  induction ts generalizing z with
  | nil => simp
  | cons t ts ih =>
    rw [List.foldl_cons, ih, maxT_at, List.forall_mem_cons, max_le_iff, max_le_iff]; tauto

/-- A property of every column of the row is one of both columns of every lane of every tile. -/
theorem forall_cols {p : Fin 5120 → Prop} : (∀ l : Fin 128, ∀ j : Fin 20, p (col j (cl l)) ∧ p (col j (cr l))) ↔ ∀ C, p C := by
  constructor
  · intro h C
    obtain ⟨j, c, rfl⟩ := exists_col C
    obtain ⟨l, rfl | rfl⟩ := exists_lane c
    · exact (h l j).1
    · exact (h l j).2
  · exact fun h l j => ⟨h _, h _⟩

/-- The lanes' minimum of the folded minima is the minimum of the row. -/
theorem min_foldl (T : Fin 20 → FVec Ideal S32x256 .f32) (r : Fin 32) (y : Row.R)
    (hT : ∀ j c, T j (ix2 r c) = y (col j c)) :
    (Finset.univ.fold min (Ideal.ofBits .f32 0x7F800000#32) fun l => (List.ofFn T).foldl minT k0_pay36 (ix2 r l)) = Row.lo y := by
  have h0 (l : Fin 128) : (k0_pay36 : FVec Ideal S32x128 .f32) (ix2 r l) = Ideal.ofBits .f32 0x7F800000#32 := rfl
  refine eq_of_forall_le_iff fun x => ?_
  rw [Finset.le_fold_min, Row.lo, Finset.le_fold_min]
  simp only [Finset.mem_univ, forall_true_left, le_foldl_minT, List.forall_mem_ofFn_iff, hT, h0]
  rw [← forall_cols (p := fun C => x ≤ y C)]
  exact ⟨fun h => ⟨h.1, fun l => (h.2 l).2⟩, fun h => ⟨h.1, fun l => ⟨h.1, h.2 l⟩⟩⟩

/-- The lanes' maximum of the folded maxima is the maximum of the row. -/
theorem max_foldl (T : Fin 20 → FVec Ideal S32x256 .f32) (r : Fin 32) (y : Row.R)
    (hT : ∀ j c, T j (ix2 r c) = y (col j c)) :
    (Finset.univ.fold max (Ideal.ofBits .f32 0xFF800000#32) fun l => (List.ofFn T).foldl maxT k0_pay37 (ix2 r l)) = Row.hi y := by
  have h0 (l : Fin 128) : (k0_pay37 : FVec Ideal S32x128 .f32) (ix2 r l) = Ideal.ofBits .f32 0xFF800000#32 := rfl
  refine eq_of_forall_ge_iff fun x => ?_
  rw [Finset.fold_max_le, Row.hi, Finset.fold_max_le]
  simp only [Finset.mem_univ, forall_true_left, foldl_maxT_le, List.forall_mem_ofFn_iff, hT, h0]
  rw [← forall_cols (p := fun C => y C ≤ x)]
  exact ⟨fun h => ⟨h.1, fun l => (h.2 l).2⟩, fun h => ⟨h.1, fun l => ⟨h.1, h.2 l⟩⟩⟩

end Cert.KernelIdeal.Hand
end
end
-- ==== Proof.Tiles.lean ====
module
public import proofs.«01_k».proof.Proof.Folds
public import Idealize.ShloMosaic.Lib.Pipeline.FrameBody
public import Idealize.ShloMosaic.Lib.Pipeline.Value
public import Idealize.ShloMosaic.Lib.ValueIdxCoords

/-! Loads and stores of tiles: which element of the array an index of a tile is, and what twenty
stores that tile 32 rows leave there. -/

@[expose] public section
set_option maxRecDepth 16384
noncomputable section
namespace Cert.KernelIdeal.Hand
open Idealize.ShloMosaic Cert.KernelIdeal Cert.KernelIdeal.Gen

/-- The values at the ideal instance. -/
abbrev IVal : EltTy → Type := Elt Ideal

/-- Row `r` of the 32 rows from row `a`. -/
def rw' {n a : ℕ} (h : a + 32 ≤ n) (r : Fin 32) : Fin n := ⟨a + r.val, by omega⟩

/-- An index of a rectangle at unit strides, in the array. -/
theorem idx_unit2 {n m s0 s1 : ℕ} {o : Fin 2 → ℕ} (inb : ∀ a, o a + (![s0, s1] : Fin 2 → ℕ) a ≤ (![n, m] : Fin 2 → ℕ) a)
    (r : Fin s0) (c : Fin s1) (R : Fin n) (C : Fin m) (hR : R.val = o 0 + r.val) (hC : C.val = o 1 + c.val) :
    (Rect.unit (s := ⟨2, ![n, m]⟩) o ![s0, s1] inb).toLoadRect.idx (ix2 r c) = ix2 R C := by
  refine funext fun a => Fin.ext ?_
  fin_cases a
  · show o 0 + 1 * r.val = R.val; omega
  · show o 1 + 1 * c.val = C.val; omega

/-- A load through a rectangle at unit strides, at an index. -/
theorem readAt_unit2 {n m s0 s1 : ℕ} {sp : Space} {e : EltTy} (v : View sig Kind.tc sp ⟨2, ![n, m]⟩ e) (X : v.ty.Contents IVal)
    {o : Fin 2 → ℕ} (inb : ∀ a, o a + (![s0, s1] : Fin 2 → ℕ) a ≤ (![n, m] : Fin 2 → ℕ) a)
    (r : Fin s0) (c : Fin s1) (R : Fin n) (C : Fin m) (hR : R.val = o 0 + r.val) (hC : C.val = o 1 + c.val) :
    v.readAt IVal (Rect.unit (s := ⟨2, ![n, m]⟩) o ![s0, s1] inb).toLoadRect X (ix2 r c) = v.read IVal X (ix2 R C) := by
  rw [View.readAt_eq_ld]
  show v.read IVal X _ = _
  rw [idx_unit2 inb r c R C hR hC]

section Pieces
variable {n : ℕ} {e : EltTy} (G : (⟨2, ![n, 5120]⟩ : Shape).Idx → IVal e) {a : ℕ} (ha : a + 32 ≤ n)

include ha in
/-- A tile's rectangle lies in the array. -/
theorem rect_inb (j : Fin 20) : ∀ x, (![a, 256 * j.val] : Fin 2 → ℕ) x + (![32, 256] : Fin 2 → ℕ) x ≤ (![n, 5120] : Fin 2 → ℕ) x := by
  intro x; fin_cases x
  · exact ha
  · show 256 * j.val + 256 ≤ 5120; omega

/-- The store of tile `j` of the array `G`, in the 32 rows from row `a`. -/
def piece (j : Fin 20) : View.Piece IVal ⟨2, ![n, 5120]⟩ e :=
  ⟨Rect.unit (s := ⟨2, ![n, 5120]⟩) ![a, 256 * j.val] ![32, 256] (rect_inb ha j), fun x => G (Rect.emb _ x)⟩

/-- The stores of all twenty tiles, the last one first. -/
def pieces : List (View.Piece IVal ⟨2, ![n, 5120]⟩ e) :=
  [piece G ha 19, piece G ha 18, piece G ha 17, piece G ha 16, piece G ha 15, piece G ha 14, piece G ha 13, piece G ha 12, piece G ha 11,
    piece G ha 10, piece G ha 9, piece G ha 8, piece G ha 7, piece G ha 6, piece G ha 5, piece G ha 4, piece G ha 3, piece G ha 2, piece G ha 1, piece G ha 0]

/-- The stores as a list over the tiles. -/
theorem pieces_eq : pieces G ha = (List.finRange 20).reverse.map (piece G ha) := rfl

/-- Every one of them stores tile elements of `G`. -/
theorem pieces_fit : ∀ p ∈ pieces G ha, ∀ x, p.2 x = G (p.1.emb x) := by
  intro p hp
  rw [pieces_eq, List.mem_map] at hp
  obtain ⟨j, -, rfl⟩ := hp
  exact fun _ => rfl

/-- They cover the 32 rows. -/
theorem pieces_cover (r : Fin 32) (C : Fin 5120) : ∃ p ∈ pieces G ha, ix2 (rw' ha r) C ∈ p.1.set := by
  obtain ⟨j, c, rfl⟩ := exists_col C
  refine ⟨piece G ha j, ?_, ?_⟩
  · rw [pieces_eq]; exact List.mem_map_of_mem (by simp)
  · rw [← idx_unit2 (rect_inb ha j) r c (rw' ha r) (col j c) rfl rfl]
    exact LoadRect.idx_mem _ _

/-- A load of a tile after the twenty stores reads the array `G`. -/
theorem readCov_pieces {sp : Space} (v : View sig Kind.tc sp ⟨2, ![n, 5120]⟩ e) {o : Fin 2 → ℕ}
    (inb : ∀ x, o x + (![32, 256] : Fin 2 → ℕ) x ≤ (![n, 5120] : Fin 2 → ℕ) x) (j : Fin 20) (ho : o = ![a, 256 * j.val]) (r : Fin 32) (c : Fin 256) :
    v.readCov (pieces G ha) (Rect.unit (s := ⟨2, ![n, 5120]⟩) o ![32, 256] inb).toLoadRect (ix2 r c) = G (ix2 (rw' ha r) (col j c)) := by
  subst ho
  rw [View.readCov_eq_canon']
  show View.canon _ (LoadRect.idx _ _) = _
  rw [idx_unit2 inb r c (rw' ha r) (col j c) rfl rfl]
  exact View.canon_apply_of_pieces G _ (pieces_fit G ha) _ (pieces_cover G ha r _)

variable {G ha}
/-- A store of a tile is the canonical one when its values are `G`'s. -/
theorem piece_eq {o : Fin 2 → ℕ} {inb : ∀ x, o x + (![32, 256] : Fin 2 → ℕ) x ≤ (![n, 5120] : Fin 2 → ℕ) x} (j : Fin 20) (ho : o = ![a, 256 * j.val])
    {v : S32x256.Idx → IVal e} (hv : ∀ r c, v (ix2 r c) = G (ix2 (rw' ha r) (col j c))) :
    (⟨Rect.unit (s := ⟨2, ![n, 5120]⟩) o ![32, 256] inb, v⟩ : View.Piece IVal ⟨2, ![n, 5120]⟩ e) = piece G ha j := by
  subst ho
  refine congrArg (Sigma.mk _) (funext fun x => ?_)
  rw [eq_ix2 x]
  refine (hv _ _).trans (congrArg G ?_)
  exact (idx_unit2 inb (x 0) (x 1) (rw' ha (x 0)) (col j (x 1)) rfl rfl).symm

end Pieces

end Cert.KernelIdeal.Hand
end
end
-- ==== Proof.BlockSpec.lean ====
module
public import proofs.«01_k».proof.Proof.Tiles

/-! What one block of 256 rows computes, from the block's two operands and the weights. -/

@[expose] public section
noncomputable section
namespace Cert.KernelIdeal.Hand
open Idealize.ShloMosaic Cert.KernelIdeal Cert.KernelIdeal.Gen

/-- The sum of the two operands. -/
def sumB (x0 x1 : Vec Ideal S256x5120 .bf16) : Vec Ideal S256x5120 .bf16 := fun i => (x0 i : EReal) + x1 i

/-- A row of the sum. -/
def rowS (x0 x1 : Vec Ideal S256x5120 .bf16) (R : Fin 256) : Row.R := fun c => sumB x0 x1 (ix2 R c)
/-- The weights. -/
def gam (x2 : Vec Ideal S1x5120 .bf16) : Row.R := fun c => x2 (ix2 0 c)
/-- A normalised row. -/
def rowY (x0 x1 : Vec Ideal S256x5120 .bf16) (x2 : Vec Ideal S1x5120 .bf16) (R : Fin 256) : Row.R := Row.norm (rowS x0 x1 R) (gam x2)

/-- The codes. -/
def codeB (x0 x1 : Vec Ideal S256x5120 .bf16) (x2 : Vec Ideal S1x5120 .bf16) : Vec Ideal S256x5120 .i8 := fun i => Row.code (rowY x0 x1 x2 (i 0)) (i 1)
/-- The scales, one a row, repeated over 128 lanes. -/
def scaleB (x0 x1 : Vec Ideal S256x5120 .bf16) (x2 : Vec Ideal S1x5120 .bf16) : Vec Ideal S256x128 .f32 := fun i => Row.scale (rowY x0 x1 x2 (i 0))
/-- The zero points, one a row, repeated over 128 lanes. -/
def zpB (x0 x1 : Vec Ideal S256x5120 .bf16) (x2 : Vec Ideal S1x5120 .bf16) : Vec Ideal S256x128 .f32 := fun i => Row.zp (rowY x0 x1 x2 (i 0))
/-- The 32 normalised rows from row `a`. -/
def normB (x0 x1 : Vec Ideal S256x5120 .bf16) (x2 : Vec Ideal S1x5120 .bf16) {a : ℕ} (ha : a + 32 ≤ 256) : Vec Ideal S32x5120 .f32 :=
  fun i => rowY x0 x1 x2 (rw' ha (i 0)) (i 1)

end Cert.KernelIdeal.Hand
end
end
-- ==== Proof.TripSum.lean ====
module
public import proofs.«01_k».proof.Proof.Gen.KernelIdeal.Loops
public import proofs.«01_k».proof.Proof.BlockSpec

/-! One trip of the loop over 32-row chunks, first pass: the sums it stores, what it reads back of
them, and the reciprocal root mean squares. -/

@[expose] public section
set_option maxRecDepth 16384
noncomputable section
namespace Cert.KernelIdeal.Hand
open Idealize.ShloMosaic Cert.KernelIdeal Cert.KernelIdeal.Gen

/-- A trip's rows are in the block. -/
theorem hrow (k : Fin k0_t1_loop.trips) : 32 * k.val + 32 ≤ 256 := by
  have h : k0_t1_loop.trips ≤ 8 := k0_t1_abs.2.1
  have := k.isLt
  omega

section
variable (arg1 arg2 : Memref sig Kind.tc Space.vmem S256x5120 EltTy.bf16)
  (X1 : BufTy.Contents IVal arg1.view.ty) (X2 : BufTy.Contents IVal arg2.view.ty) (k : Fin k0_t1_loop.trips)

/-- The block's sums, from the operands' buffers. -/
abbrev G4 : Vec Ideal S256x5120 .bf16 := sumB (arg1.view.read IVal X1) (arg2.view.read IVal X2)

/-- A tile of 32 rows by 256 columns loaded from a block. -/
abbrev ld32 (arg : Memref sig Kind.tc Space.vmem S256x5120 EltTy.bf16) (X : BufTy.Contents IVal arg.view.ty) {o : Fin 2 → ℕ}
    (inb : ∀ x, o x + S32x256.size x ≤ S256x5120.size x) : FVec Ideal S32x256 .bf16 :=
  arg.view.readAt IVal (Rect.unit (s := S256x5120) o S32x256.size inb).toLoadRect X

/-- The sum of two loaded tiles. -/
theorem addT_read {o : Fin 2 → ℕ} (inb : ∀ x, o x + S32x256.size x ≤ S256x5120.size x) (j : Fin 20) (ho : o = ![32 * k.val, 256 * j.val]) (r : Fin 32) (c : Fin 256) :
    addT (ld32 arg1 X1 inb) (ld32 arg2 X2 inb) (ix2 r c)
      = G4 arg1 arg2 X1 X2 (ix2 (rw' (hrow k) r) (col j c)) := by
  subst ho
  rw [addT_at]
  exact congrArg₂ (· + ·) (readAt_unit2 arg1.view X1 inb r c _ _ rfl rfl) (readAt_unit2 arg2.view X2 inb r c _ _ rfl rfl)

/-- The offsets of the twenty tiles of a trip's rows. -/
def offs (j : Fin 20) : Fin 2 → ℕ := ![k0_off1 k, k0_off2 k, k0_off3 k, k0_off4 k, k0_off5 k, k0_off6 k, k0_off7 k, k0_off8 k, k0_off9 k, k0_off10 k,
  k0_off11 k, k0_off12 k, k0_off13 k, k0_off14 k, k0_off15 k, k0_off16 k, k0_off17 k, k0_off18 k, k0_off19 k, k0_off20 k] j

/-- They are row `32 k`, column `256 j`. -/
theorem offs_eq (j : Fin 20) : offs k j = ![32 * k.val, 256 * j.val] := by
  fin_cases j
  exacts [k0_off1_eq k, k0_off2_eq k, k0_off3_eq k, k0_off4_eq k, k0_off5_eq k, k0_off6_eq k, k0_off7_eq k, k0_off8_eq k, k0_off9_eq k, k0_off10_eq k,
    k0_off11_eq k, k0_off12_eq k, k0_off13_eq k, k0_off14_eq k, k0_off15_eq k, k0_off16_eq k, k0_off17_eq k, k0_off18_eq k, k0_off19_eq k, k0_off20_eq k]

/-- Tiles at these offsets lie in the block. -/
theorem offs_inb (j : Fin 20) : ∀ x, offs k j x + S32x256.size x ≤ S256x5120.size x := by
  rw [offs_eq]; exact rect_inb (hrow k) j

/-- Tile `j` of the sums, as the trip computes it. -/
def sumTile (j : Fin 20) : FVec Ideal S32x256 .bf16 :=
  addT (ld32 arg1 X1 (offs_inb k j)) (ld32 arg2 X2 (offs_inb k j))

/-- It holds the block's sums. -/
theorem sumTile_at (j : Fin 20) (r : Fin 32) (c : Fin 256) :
    sumTile arg1 arg2 X1 X2 k j (ix2 r c) = G4 arg1 arg2 X1 X2 (ix2 (rw' (hrow k) r) (col j c)) :=
  addT_read arg1 arg2 X1 X2 k _ j (offs_eq k j) r c

/-- The first pass stores the twenty tiles. -/
theorem stores4_tiles : trip_k0_t1.sl.HW_arg4_20 (F := Ideal) arg1 arg2 X1 X2 k
    = (List.finRange 20).reverse.map fun j => ⟨Rect.unit (s := S256x5120) (offs k j) S32x256.size (offs_inb k j), sumTile arg1 arg2 X1 X2 k j⟩ := by
  rfl

/-- The first pass stores the block's sums. -/
theorem stores4 : trip_k0_t1.sl.HW_arg4_20 (F := Ideal) arg1 arg2 X1 X2 k = pieces (G4 arg1 arg2 X1 X2) (hrow k) := by
  rw [stores4_tiles, pieces_eq]
  exact List.map_congr_left fun j _ => piece_eq (n := 256) (e := .bf16) (G := G4 arg1 arg2 X1 X2) (ha := hrow k) j (offs_eq k j) (sumTile_at arg1 arg2 X1 X2 k j)

/-- A tile of the sums read back. -/
def backTile (arg4 : Memref sig Kind.tc Space.vmem S256x5120 EltTy.bf16) (j : Fin 20) : FVec Ideal S32x256 .bf16 :=
  arg4.view.readCov (trip_k0_t1.sl.HW_arg4_20 (F := Ideal) arg1 arg2 X1 X2 k) (Rect.unit (s := S256x5120) (offs k j) S32x256.size (offs_inb k j)).toLoadRect

/-- It holds the block's sums. -/
theorem backTile_at (arg4 : Memref sig Kind.tc Space.vmem S256x5120 EltTy.bf16) (j : Fin 20) (r : Fin 32) (c : Fin 256) :
    backTile arg1 arg2 X1 X2 k arg4 j (ix2 r c) = G4 arg1 arg2 X1 X2 (ix2 (rw' (hrow k) r) (col j c)) := by
  unfold backTile
  rw [stores4]
  exact readCov_pieces (G4 arg1 arg2 X1 X2) (hrow k) arg4.view (offs_inb k j) j (offs_eq k j) r c

/-- The reciprocal root mean squares are those of the folded tiles. -/
theorem inv_fold : trip_k0_t1.sl.r_15 (F := Ideal) arg1 arg2 X1 X2 k = invT ((List.ofFn (sumTile arg1 arg2 X1 X2 k)).foldl accT acc0) := by
  rfl

/-- The reciprocal root mean squares are the rows'. -/
theorem inv_at (r : Fin 32) : trip_k0_t1.sl.r_15 (F := Ideal) arg1 arg2 X1 X2 k (ix2 r 0)
    = Row.inv (rowS (arg1.view.read IVal X1) (arg2.view.read IVal X2) (rw' (hrow k) r)) := by
  rw [inv_fold, invT_at]
  exact congrArg Row.invOf (sum_foldl _ r _ fun j c => sumTile_at arg1 arg2 X1 X2 k j r c)

end
end Cert.KernelIdeal.Hand
end
end
-- ==== Proof.TripNorm.lean ====
module
public import proofs.«01_k».proof.Proof.TripSum

/-! One trip, second pass: the normalised rows it keeps in the scratch, and their minima, maxima,
scales and zero points. -/

@[expose] public section
set_option maxRecDepth 16384
noncomputable section
namespace Cert.KernelIdeal.Hand
open Idealize.ShloMosaic Cert.KernelIdeal Cert.KernelIdeal.Gen

/-- The scratch holds the 32 rows from its row 0. -/
theorem hzero : 0 + 32 ≤ 32 := by omega

/-- A tile of normalised rows as it is stored. -/
def storeT (inv : FVec Ideal S32x1 .f32) (v : FVec Ideal S32x256 .bf16) (g : FVec Ideal S1x256 .bf16) : FVec Ideal S32x256 .f32 := k0_pay41 inv v g

/-- An element of it. -/
theorem storeT_at (inv : FVec Ideal S32x1 .f32) (v : FVec Ideal S32x256 .bf16) (g : FVec Ideal S1x256 .bf16) (r : Fin 32) (c : Fin 256) :
    storeT inv v g (ix2 r c) = v (ix2 r c) * inv (ix2 r 0) * g (ix2 0 c) := by
  unfold storeT; pointwise [k0_pay41, k0_pay40]

section
variable (arg1 arg2 : Memref sig Kind.tc Space.vmem S256x5120 EltTy.bf16) (arg3 : Memref sig Kind.tc Space.vmem S1x5120 EltTy.bf16)
  (arg4 : Memref sig Kind.tc Space.vmem S256x5120 EltTy.bf16)
  (X1 : BufTy.Contents IVal arg1.view.ty) (X2 : BufTy.Contents IVal arg2.view.ty) (X3 : BufTy.Contents IVal arg3.view.ty) (k : Fin k0_t1_loop.trips)

/-- The normalised row of the block that is row `r` of the trip. -/
abbrev tripY (r : Fin 32) : Row.R := rowY (arg1.view.read IVal X1) (arg2.view.read IVal X2) (arg3.view.read IVal X3) (rw' (hrow k) r)

/-- A tile of the weights lies in them. -/
theorem gam_inb (j : Fin 20) : ∀ x, (![0, 256 * j.val] : Fin 2 → ℕ) x + S1x256.size x ≤ S1x5120.size x := by
  intro x; fin_cases x
  · show 0 + 1 ≤ 1; omega
  · show 256 * j.val + 256 ≤ 5120; omega

/-- Tile `j` of the weights. -/
def gamTile (j : Fin 20) : FVec Ideal S1x256 .bf16 :=
  arg3.view.readAt IVal (Rect.unit (s := S1x5120) ![0, 256 * j.val] S1x256.size (gam_inb j)).toLoadRect X3

/-- It holds the weights of its columns. -/
theorem gamTile_at (j : Fin 20) (c : Fin 256) : gamTile arg3 X3 j (ix2 0 c) = gam (arg3.view.read IVal X3) (col j c) :=
  readAt_unit2 arg3.view X3 (gam_inb j) 0 c 0 (col j c) rfl rfl

/-- Tile `j` of the normalised rows. -/
def normTile (j : Fin 20) : FVec Ideal S32x256 .f32 :=
  normT (trip_k0_t1.sl.r_15 arg1 arg2 X1 X2 k) (backTile arg1 arg2 X1 X2 k arg4 j) (gamTile arg3 X3 j)

/-- Tile `j` of the normalised rows as it is stored. -/
def normStore (j : Fin 20) : FVec Ideal S32x256 .f32 :=
  storeT (trip_k0_t1.sl.r_15 arg1 arg2 X1 X2 k) (backTile arg1 arg2 X1 X2 k arg4 j) (gamTile arg3 X3 j)

/-- It holds the normalised rows at its columns. -/
theorem normTile_at (j : Fin 20) (r : Fin 32) (c : Fin 256) :
    normTile arg1 arg2 arg3 arg4 X1 X2 X3 k j (ix2 r c) = tripY arg1 arg2 arg3 X1 X2 X3 k r (col j c) := by
  unfold normTile
  rw [normT_at, backTile_at, inv_at, gamTile_at]
  rfl

/-- It holds the same numbers. -/
theorem normStore_at (j : Fin 20) (r : Fin 32) (c : Fin 256) :
    normStore arg1 arg2 arg3 arg4 X1 X2 X3 k j (ix2 r c) = tripY arg1 arg2 arg3 X1 X2 X3 k r (col j c) := by
  unfold normStore
  rw [storeT_at, backTile_at, inv_at, gamTile_at]
  rfl

/-- The normalised rows of the trip, as the scratch holds them. -/
abbrev G8 : Vec Ideal S32x5120 .f32 := normB (arg1.view.read IVal X1) (arg2.view.read IVal X2) (arg3.view.read IVal X3) (hrow k)

/-- An element of them. -/
theorem G8_at (j : Fin 20) (r : Fin 32) (c : Fin 256) :
    G8 arg1 arg2 arg3 X1 X2 X3 k (ix2 (rw' hzero r) (col j c)) = tripY arg1 arg2 arg3 X1 X2 X3 k r (col j c) := by
  have h : rw' hzero r = r := Fin.ext (Nat.zero_add _)
  rw [h]; rfl

/-- The second pass stores the twenty tiles. -/
theorem stores8_tiles : trip_k0_t1.sl.HW_arg8_20 (F := Ideal) arg1 arg2 arg3 arg4 X1 X2 X3 k
    = (List.finRange 20).reverse.map fun j => ⟨Rect.unit (s := S32x5120) ![0, 256 * j.val] S32x256.size (rect_inb hzero j), normStore arg1 arg2 arg3 arg4 X1 X2 X3 k j⟩ := by
  rfl

/-- The second pass stores the normalised rows. -/
theorem stores8 : trip_k0_t1.sl.HW_arg8_20 (F := Ideal) arg1 arg2 arg3 arg4 X1 X2 X3 k = pieces (G8 arg1 arg2 arg3 X1 X2 X3 k) hzero := by
  rw [stores8_tiles, pieces_eq]
  exact List.map_congr_left fun j _ => piece_eq (n := 32) (e := .f32) (G := G8 arg1 arg2 arg3 X1 X2 X3 k) (ha := hzero) j rfl fun r c =>
    (normStore_at arg1 arg2 arg3 arg4 X1 X2 X3 k j r c).trans (G8_at arg1 arg2 arg3 X1 X2 X3 k j r c).symm

/-- A tile of the scratch read back. -/
def normBack (arg8 : Memref sig Kind.tc Space.vmem S32x5120 EltTy.f32) (j : Fin 20) : FVec Ideal S32x256 .f32 :=
  arg8.view.readCov (trip_k0_t1.sl.HW_arg8_20 (F := Ideal) arg1 arg2 arg3 arg4 X1 X2 X3 k) (Rect.unit (s := S32x5120) ![0, 256 * j.val] S32x256.size (rect_inb hzero j)).toLoadRect

/-- It holds the normalised rows. -/
theorem normBack_at (arg8 : Memref sig Kind.tc Space.vmem S32x5120 EltTy.f32) (j : Fin 20) (r : Fin 32) (c : Fin 256) :
    normBack arg1 arg2 arg3 arg4 X1 X2 X3 k arg8 j (ix2 r c) = tripY arg1 arg2 arg3 X1 X2 X3 k r (col j c) := by
  unfold normBack
  rw [stores8, ← G8_at]
  exact readCov_pieces (G8 arg1 arg2 arg3 X1 X2 X3 k) hzero arg8.view (rect_inb hzero j) j rfl r c

/-- The minimum accumulator after the second pass. -/
theorem min_fold : trip_k0_t1.sl.r_41 (F := Ideal) arg1 arg2 arg3 arg4 X1 X2 X3 k
    = (List.ofFn (normTile arg1 arg2 arg3 arg4 X1 X2 X3 k)).foldl minT k0_pay36 := by
  rfl

/-- The maximum accumulator after the second pass. -/
theorem max_fold : trip_k0_t1.sl.r_42 (F := Ideal) arg1 arg2 arg3 arg4 X1 X2 X3 k
    = (List.ofFn (normTile arg1 arg2 arg3 arg4 X1 X2 X3 k)).foldl maxT k0_pay37 := by
  rfl

/-- The rows' minima. -/
theorem tripLo_at (r : Fin 32) : k0_pay100 (trip_k0_t1.sl.r_41 (F := Ideal) arg1 arg2 arg3 arg4 X1 X2 X3 k) (ix2 r 0)
    = Row.lo (tripY arg1 arg2 arg3 X1 X2 X3 k r) := by
  rw [lo_at, min_fold]
  exact min_foldl _ r _ fun j c => normTile_at arg1 arg2 arg3 arg4 X1 X2 X3 k j r c

/-- The rows' scales. -/
theorem tripScale_at (r : Fin 32) : trip_k0_t1.sl.r_43 (F := Ideal) arg1 arg2 arg3 arg4 X1 X2 X3 k (ix2 r 0)
    = Row.scale (tripY arg1 arg2 arg3 X1 X2 X3 k r) := by
  unfold trip_k0_t1.sl.r_43
  rw [scale_at, tripLo_at, max_fold]
  exact congrArg (Row.scaleOf _) (max_foldl _ r _ fun j c => normTile_at arg1 arg2 arg3 arg4 X1 X2 X3 k j r c)

/-- The rows' zero points. -/
theorem tripZp_at (r : Fin 32) : trip_k0_t1.sl.r_44 (F := Ideal) arg1 arg2 arg3 arg4 X1 X2 X3 k (ix2 r 0)
    = Row.zp (tripY arg1 arg2 arg3 X1 X2 X3 k r) := by
  unfold trip_k0_t1.sl.r_44
  rw [zp_at, tripLo_at]
  exact congrArg (Row.zpOf _) (tripScale_at arg1 arg2 arg3 arg4 X1 X2 X3 k r)

end
end Cert.KernelIdeal.Hand
end
end
-- ==== Proof.TripOut.lean ====
module
public import proofs.«01_k».proof.Proof.TripNorm

/-! What one trip writes: the pieces of its five written buffers, as the block's values. -/

@[expose] public section
set_option maxRecDepth 16384
noncomputable section
namespace Cert.KernelIdeal.Hand
open Idealize.ShloMosaic Cert.KernelIdeal Cert.KernelIdeal.Gen

section Lanes
variable {n : ℕ} {e : EltTy} (G : (⟨2, ![n, 128]⟩ : Shape).Idx → IVal e) {a : ℕ} (ha : a + 32 ≤ n)

include ha in
/-- The rectangle of 32 rows lies in the array. -/
theorem lanes_inb : ∀ x, (![a, 0] : Fin 2 → ℕ) x + (![32, 128] : Fin 2 → ℕ) x ≤ (![n, 128] : Fin 2 → ℕ) x := by
  intro x; fin_cases x
  · exact ha
  · show 0 + 128 ≤ 128; omega

/-- The store of `G`'s 32 rows from row `a`, all 128 lanes. -/
def lanes : View.Piece IVal ⟨2, ![n, 128]⟩ e :=
  ⟨Rect.unit (s := ⟨2, ![n, 128]⟩) ![a, 0] ![32, 128] (lanes_inb ha), fun x => G (Rect.emb _ x)⟩

/-- It covers the 32 rows. -/
theorem lanes_cover (r : Fin 32) (l : Fin 128) : ix2 (rw' ha r) l ∈ (lanes G ha).1.set := by
  rw [← idx_unit2 (lanes_inb ha) r l (rw' ha r) l rfl (Nat.zero_add _).symm]
  exact LoadRect.idx_mem _ _

variable {G ha}
/-- A store of 32 rows is that one when its values are `G`'s. -/
theorem lanes_eq {o : Fin 2 → ℕ} {inb : ∀ x, o x + (![32, 128] : Fin 2 → ℕ) x ≤ (![n, 128] : Fin 2 → ℕ) x} (ho : o = ![a, 0])
    {v : S32x128.Idx → IVal e} (hv : ∀ r l, v (ix2 r l) = G (ix2 (rw' ha r) l)) :
    (⟨Rect.unit (s := ⟨2, ![n, 128]⟩) o ![32, 128] inb, v⟩ : View.Piece IVal ⟨2, ![n, 128]⟩ e) = lanes G ha := by
  subst ho
  refine congrArg (Sigma.mk _) (funext fun x => ?_)
  rw [eq_ix2 x]
  refine (hv _ _).trans (congrArg G ?_)
  exact (idx_unit2 inb (x 0) (x 1) (rw' ha (x 0)) (x 1) rfl (Nat.zero_add _).symm).symm

end Lanes

section
variable (arg1 arg2 : Memref sig Kind.tc Space.vmem S256x5120 EltTy.bf16) (arg3 : Memref sig Kind.tc Space.vmem S1x5120 EltTy.bf16)
  (arg4 : Memref sig Kind.tc Space.vmem S256x5120 EltTy.bf16) (arg8 : Memref sig Kind.tc Space.vmem S32x5120 EltTy.f32)
  (X1 : BufTy.Contents IVal arg1.view.ty) (X2 : BufTy.Contents IVal arg2.view.ty) (X3 : BufTy.Contents IVal arg3.view.ty) (k : Fin k0_t1_loop.trips)

/-- Tile `j` of the codes. -/
def codeTile (j : Fin 20) : IVec S32x256 8 :=
  codeT (trip_k0_t1.sl.r_43 (F := Ideal) arg1 arg2 arg3 arg4 X1 X2 X3 k) (trip_k0_t1.sl.r_44 (F := Ideal) arg1 arg2 arg3 arg4 X1 X2 X3 k)
    (normBack arg1 arg2 arg3 arg4 X1 X2 X3 k arg8 j)

/-- The block's codes, from the operands' buffers. -/
abbrev G5 : Vec Ideal S256x5120 .i8 := codeB (arg1.view.read IVal X1) (arg2.view.read IVal X2) (arg3.view.read IVal X3)
/-- The block's scales, from the operands' buffers. -/
abbrev G9 : Vec Ideal S256x128 .f32 := scaleB (arg1.view.read IVal X1) (arg2.view.read IVal X2) (arg3.view.read IVal X3)
/-- The block's zero points, from the operands' buffers. -/
abbrev G10 : Vec Ideal S256x128 .f32 := zpB (arg1.view.read IVal X1) (arg2.view.read IVal X2) (arg3.view.read IVal X3)

/-- It holds the block's codes: the second rounding of the code changes nothing. -/
theorem codeTile_at (j : Fin 20) (r : Fin 32) (c : Fin 256) :
    codeTile arg1 arg2 arg3 arg4 arg8 X1 X2 X3 k j (ix2 r c) = G5 arg1 arg2 arg3 X1 X2 X3 (ix2 (rw' (hrow k) r) (col j c)) := by
  unfold codeTile
  rw [codeT_at, normBack_at, tripScale_at, tripZp_at, Row.round_clipOf _ _ (z := Row.zp _) (Row.whole_zpOf _ _)]
  rfl

end

section
variable (𝒱 : Variants) (c : Dev nD) (bd : Option 𝒱.V) (i : grid0.Coords)
  (arg1 : Memref sig Kind.tc Space.vmem S256x5120 EltTy.bf16) (harg1 : arg1.IsWhole) (arg2 : Memref sig Kind.tc Space.vmem S256x5120 EltTy.bf16) (harg2 : arg2.IsWhole)
  (arg3 : Memref sig Kind.tc Space.vmem S1x5120 EltTy.bf16) (harg3 : arg3.IsWhole) (arg4 : Memref sig Kind.tc Space.vmem S256x5120 EltTy.bf16) (harg4 : arg4.IsWhole)
  (arg5 : Memref sig Kind.tc Space.vmem S256x5120 EltTy.i8) (harg5 : arg5.IsWhole) (arg6 : Memref sig Kind.tc Space.vmem S1x2x128 EltTy.f32) (harg6 : arg6.IsWhole)
  (arg7 : Memref sig Kind.tc Space.vmem S1x2x128 EltTy.i32) (harg7 : arg7.IsWhole) (arg8 : Memref sig Kind.tc Space.vmem S32x5120 EltTy.f32) (harg8 : arg8.IsWhole)
  (arg9 : Memref sig Kind.tc Space.vmem S256x128 EltTy.f32) (harg9 : arg9.IsWhole) (arg10 : Memref sig Kind.tc Space.vmem S256x128 EltTy.f32) (harg10 : arg10.IsWhole)
  (X1 : BufTy.Contents IVal arg1.view.ty) (X2 : BufTy.Contents IVal arg2.view.ty) (X3 : BufTy.Contents IVal arg3.view.ty) (k : Fin k0_t1_loop.trips)
  (f4 : BufTy.Contents IVal arg4.view.ty) (f5 : BufTy.Contents IVal arg5.view.ty) (f8 : BufTy.Contents IVal arg8.view.ty)
  (f9 : BufTy.Contents IVal arg9.view.ty) (f10 : BufTy.Contents IVal arg10.view.ty)

/-- What a trip writes, of the block's values. -/
theorem trip_writes :
    (tripL_k0_t1 (F := Ideal) 𝒱 c bd i arg1 harg1 arg2 harg2 arg3 harg3 arg4 harg4 arg5 harg5 arg6 harg6 arg7 harg7 arg8 harg8 arg9 harg9 arg10 harg10 X1 X2 X3 k f4 f5 f8 f9 f10)
    = (pieces (G4 arg1 arg2 X1 X2) (hrow k), pieces (G5 arg1 arg2 arg3 X1 X2 X3) (hrow k), pieces (G8 arg1 arg2 arg3 X1 X2 X3 k) hzero,
        [lanes (G9 arg1 arg2 arg3 X1 X2 X3) (hrow k)], [lanes (G10 arg1 arg2 arg3 X1 X2 X3) (hrow k)]) := by
  have e5 : pieces (G5 arg1 arg2 arg3 X1 X2 X3) (hrow k)
      = (List.finRange 20).reverse.map fun j => ⟨Rect.unit (s := S256x5120) (offs k j) S32x256.size (offs_inb k j), codeTile arg1 arg2 arg3 arg4 arg8 X1 X2 X3 k j⟩ := by
    rw [pieces_eq]
    exact (List.map_congr_left fun j _ => piece_eq (n := 256) (e := .i8) (G := G5 arg1 arg2 arg3 X1 X2 X3) (ha := hrow k) j (offs_eq k j)
      (codeTile_at arg1 arg2 arg3 arg4 arg8 X1 X2 X3 k j)).symm
  have e9 := lanes_eq (n := 256) (e := .f32) (G := G9 arg1 arg2 arg3 X1 X2 X3) (ha := hrow k) (o := k0_off21 k) (inb := k0_off21_inb k) (k0_off21_eq k)
    (v := k0_pay103 (trip_k0_t1.sl.r_41 (F := Ideal) arg1 arg2 arg3 arg4 X1 X2 X3 k) (trip_k0_t1.sl.r_42 (F := Ideal) arg1 arg2 arg3 arg4 X1 X2 X3 k))
    (fun r l => (scaleT_at _ _ r l).trans (tripScale_at arg1 arg2 arg3 arg4 X1 X2 X3 k r))
  have e10 := lanes_eq (n := 256) (e := .f32) (G := G10 arg1 arg2 arg3 X1 X2 X3) (ha := hrow k) (o := k0_off21 k) (inb := k0_off21_inb k) (k0_off21_eq k)
    (v := k0_pay104 (trip_k0_t1.sl.r_41 (F := Ideal) arg1 arg2 arg3 arg4 X1 X2 X3 k) (trip_k0_t1.sl.r_42 (F := Ideal) arg1 arg2 arg3 arg4 X1 X2 X3 k))
    (fun r l => (zpT_at _ _ r l).trans (tripZp_at arg1 arg2 arg3 arg4 X1 X2 X3 k r))
  rw [← e9, ← e10, e5, ← stores8 arg1 arg2 arg3 arg4, ← stores4]
  unfold tripL_k0_t1 trip_k0_t1
  rfl

end
end Cert.KernelIdeal.Hand
end
end
-- ==== Proof.LoopValue.lean ====
module
public import proofs.«01_k».proof.Proof.TripOut

/-! After all trips of the loop the written buffers hold the block's values. -/

@[expose] public section
set_option maxRecDepth 16384
noncomputable section
namespace Cert.KernelIdeal.Hand
open Idealize.ShloMosaic Cert.KernelIdeal Cert.KernelIdeal.Gen

/-- The stores `L` store values of `G`, and every element of the first `b` rows. -/
def Done {n m : ℕ} {e : EltTy} (G : (⟨2, ![n, m]⟩ : Shape).Idx → IVal e) (b : ℕ) (L : List (View.Piece IVal ⟨2, ![n, m]⟩ e)) : Prop :=
  (∀ p ∈ L, ∀ x, p.2 x = G (p.1.emb x)) ∧ ∀ (R : Fin n) (C : Fin m), R.val < b → ∃ p ∈ L, ix2 R C ∈ p.1.set

/-- No stores leave no rows to be right about. -/
theorem done_zero {n m : ℕ} {e : EltTy} (G : (⟨2, ![n, m]⟩ : Shape).Idx → IVal e) : Done G (32 * 0) [] :=
  ⟨fun _ h => absurd h List.not_mem_nil, fun _ _ h => absurd h (by omega)⟩

/-- Stores of the next 32 rows, after stores of the rows before them. -/
theorem Done.append {n m : ℕ} {e : EltTy} {G : (⟨2, ![n, m]⟩ : Shape).Idx → IVal e} {k : ℕ} {L L' : List (View.Piece IVal ⟨2, ![n, m]⟩ e)}
    (h : Done G (32 * k) L) (ha : 32 * k + 32 ≤ n) (hf : ∀ p ∈ L', ∀ x, p.2 x = G (p.1.emb x))
    (hc : ∀ r C, ∃ p ∈ L', ix2 (rw' ha r) C ∈ p.1.set) : Done G (32 * (k + 1)) (L' ++ L) := by
  refine ⟨fun p hp => ?_, fun R C hR => ?_⟩
  · rcases List.mem_append.mp hp with hp | hp
    exacts [hf p hp, h.1 p hp]
  · by_cases hlt : R.val < 32 * k
    · obtain ⟨p, hp, hm⟩ := h.2 R C hlt
      exact ⟨p, List.mem_append_right _ hp, hm⟩
    · obtain ⟨p, hp, hm⟩ := hc ⟨R.val - 32 * k, by omega⟩ C
      have hR' : rw' ha ⟨R.val - 32 * k, by omega⟩ = R := Fin.ext (by show 32 * k + (R.val - 32 * k) = R.val; omega)
      rw [hR'] at hm
      exact ⟨p, List.mem_append_left _ hp, hm⟩

/-- Once all rows are stored the buffer reads `G`. -/
theorem Done.read {n m : ℕ} {e : EltTy} {G : (⟨2, ![n, m]⟩ : Shape).Idx → IVal e} {L : List (View.Piece IVal ⟨2, ![n, m]⟩ e)} (h : Done G n L)
    {sp : Space} (v : View sig Kind.tc sp ⟨2, ![n, m]⟩ e) (f : v.ty.Contents IVal) : v.read IVal (v.writes IVal f L) = G := by
  have hc (y : (⟨2, ![n, m]⟩ : Shape).Idx) : ∃ p ∈ L, y ∈ p.1.set := by
    rw [eq_ix2 y]; exact h.2 _ _ (y 0).isLt
  rw [View.read_writes_eq_canon v f L hc]
  exact funext fun y => View.canon_apply_of_pieces G L h.1 y (hc y)

/-- The loop makes eight trips. -/
theorem trips_eq : k0_t1_loop.trips = 8 := by decide +kernel

section
variable (𝒱 : Variants) (c : Dev nD) (bd : Option 𝒱.V) (i : grid0.Coords)
  (arg1 : Memref sig Kind.tc Space.vmem S256x5120 EltTy.bf16) (harg1 : arg1.IsWhole) (arg2 : Memref sig Kind.tc Space.vmem S256x5120 EltTy.bf16) (harg2 : arg2.IsWhole)
  (arg3 : Memref sig Kind.tc Space.vmem S1x5120 EltTy.bf16) (harg3 : arg3.IsWhole) (arg4 : Memref sig Kind.tc Space.vmem S256x5120 EltTy.bf16) (harg4 : arg4.IsWhole)
  (arg5 : Memref sig Kind.tc Space.vmem S256x5120 EltTy.i8) (harg5 : arg5.IsWhole) (arg6 : Memref sig Kind.tc Space.vmem S1x2x128 EltTy.f32) (harg6 : arg6.IsWhole)
  (arg7 : Memref sig Kind.tc Space.vmem S1x2x128 EltTy.i32) (harg7 : arg7.IsWhole) (arg8 : Memref sig Kind.tc Space.vmem S32x5120 EltTy.f32) (harg8 : arg8.IsWhole)
  (arg9 : Memref sig Kind.tc Space.vmem S256x128 EltTy.f32) (harg9 : arg9.IsWhole) (arg10 : Memref sig Kind.tc Space.vmem S256x128 EltTy.f32) (harg10 : arg10.IsWhole)
  (X1 : BufTy.Contents IVal arg1.view.ty) (X2 : BufTy.Contents IVal arg2.view.ty) (X3 : BufTy.Contents IVal arg3.view.ty)
  (g4 : BufTy.Contents IVal arg4.view.ty) (g5 : BufTy.Contents IVal arg5.view.ty) (g8 : BufTy.Contents IVal arg8.view.ty)
  (g9 : BufTy.Contents IVal arg9.view.ty) (g10 : BufTy.Contents IVal arg10.view.ty)

/-- After `k` trips the first `32 k` rows are stored, in each of the four buffers. -/
theorem pb_done : ∀ k : ℕ, k ≤ 8 →
    Done (G4 arg1 arg2 X1 X2) (32 * k) (pb_k0_t1 (F := Ideal) 𝒱 c bd i arg1 harg1 arg2 harg2 arg3 harg3 arg4 harg4 arg5 harg5 arg6 harg6 arg7 harg7 arg8 harg8 arg9 harg9 arg10 harg10 X1 X2 X3 g4 g5 g8 g9 g10 k).1
    ∧ Done (G5 arg1 arg2 arg3 X1 X2 X3) (32 * k) (pb_k0_t1 (F := Ideal) 𝒱 c bd i arg1 harg1 arg2 harg2 arg3 harg3 arg4 harg4 arg5 harg5 arg6 harg6 arg7 harg7 arg8 harg8 arg9 harg9 arg10 harg10 X1 X2 X3 g4 g5 g8 g9 g10 k).2.1
    ∧ Done (G9 arg1 arg2 arg3 X1 X2 X3) (32 * k) (pb_k0_t1 (F := Ideal) 𝒱 c bd i arg1 harg1 arg2 harg2 arg3 harg3 arg4 harg4 arg5 harg5 arg6 harg6 arg7 harg7 arg8 harg8 arg9 harg9 arg10 harg10 X1 X2 X3 g4 g5 g8 g9 g10 k).2.2.2.1
    ∧ Done (G10 arg1 arg2 arg3 X1 X2 X3) (32 * k) (pb_k0_t1 (F := Ideal) 𝒱 c bd i arg1 harg1 arg2 harg2 arg3 harg3 arg4 harg4 arg5 harg5 arg6 harg6 arg7 harg7 arg8 harg8 arg9 harg9 arg10 harg10 X1 X2 X3 g4 g5 g8 g9 g10 k).2.2.2.2
  | 0, _ => ⟨done_zero _, done_zero _, done_zero _, done_zero _⟩
  | k + 1, hk => by
    obtain ⟨h4, h5, h9, h10⟩ := pb_done k (by omega)
    have hkt : k < k0_t1_loop.trips := by rw [trips_eq]; omega
    rw [pb_k0_t1_succ 𝒱 c bd i arg1 harg1 arg2 harg2 arg3 harg3 arg4 harg4 arg5 harg5 arg6 harg6 arg7 harg7 arg8 harg8 arg9 harg9 arg10 harg10 X1 X2 X3 g4 g5 g8 g9 g10 ⟨k, hkt⟩,
      trip_writes]
    refine ⟨h4.append (hrow ⟨k, hkt⟩) (pieces_fit _ _) (pieces_cover _ _), h5.append (hrow ⟨k, hkt⟩) (pieces_fit _ _) (pieces_cover _ _),
      h9.append (hrow ⟨k, hkt⟩) ?_ fun r C => ⟨_, List.mem_singleton_self _, lanes_cover _ _ r C⟩,
      h10.append (hrow ⟨k, hkt⟩) ?_ fun r C => ⟨_, List.mem_singleton_self _, lanes_cover _ _ r C⟩⟩
    · intro p hp; rw [List.mem_singleton.mp hp]; exact fun _ => rfl
    · intro p hp; rw [List.mem_singleton.mp hp]; exact fun _ => rfl

end
end Cert.KernelIdeal.Hand
end
end
-- ==== Proof.Halves.lean ====
module
public import proofs.«01_k».proof.Proof.LoopValue

/-! Loads of 128 rows of a lane buffer, and the two stores of 128 lanes that make up a block's row of scales. -/

@[expose] public section
set_option maxRecDepth 16384
noncomputable section
namespace Cert.KernelIdeal.Hand
open Idealize.ShloMosaic Cert.KernelIdeal Cert.KernelIdeal.Gen

/-- Row `128 h + l` of the block. -/
def rowAt (h : Fin 2) (l : Fin 128) : Fin 256 := ⟨128 * h.val + l.val, by omega⟩

/-- A load of the 128 rows from row `128 h`, once all rows are stored, reads the array. -/
theorem Done.half {e : EltTy} {G : S256x128.Idx → IVal e} {L : List (View.Piece IVal S256x128 e)} (hd : Done G 256 L)
    {sp : Space} (v : View sig Kind.tc sp S256x128 e) (f : v.ty.Contents IVal) (h : Fin 2) {o : Fin 2 → ℕ}
    (inb : ∀ a, o a + (![128, 128] : Fin 2 → ℕ) a ≤ (![256, 128] : Fin 2 → ℕ) a) (ho : o = ![128 * h.val, 0]) (r c : Fin 128) :
    v.readAt IVal (Rect.unit (s := S256x128) o ![128, 128] inb).toLoadRect (v.writes IVal f L) (ix2 r c) = G (ix2 (rowAt h r) c) := by
  subst ho
  rw [readAt_unit2 v _ inb r c (rowAt h r) c rfl (by show c.val = 0 + c.val; omega), hd.read]

/-- An index of half `h` of the block's row of scales. -/
theorem idx_half {h : Fin 2} {o : Fin 3 → ℕ} (inb : ∀ a, o a + (![1, 1, 128] : Fin 3 → ℕ) a ≤ (![1, 2, 128] : Fin 3 → ℕ) a) (ho : o = ![0, h.val, 0]) (l : Fin 128) :
    (Rect.unit (s := S1x2x128) o ![1, 1, 128] inb).toLoadRect.idx (ix3 0 0 l) = ix3 0 h l := by
  subst ho
  refine funext fun a => Fin.ext ?_
  fin_cases a
  · rfl
  · show h.val + 1 * 0 = h.val; omega
  · show 0 + 1 * l.val = l.val; omega

/-- An index of a row of 128 lanes is its lane. -/
theorem exists_unitLane (x : S1x1x128.Idx) : ∃ l : Fin 128, x = ix3 0 0 l :=
  ⟨x 2, (eq_ix3 x).trans (congrArg₂ (fun a b => ix3 a b (x 2)) (Subsingleton.elim (α := Fin 1) _ _) (Subsingleton.elim (α := Fin 1) _ _))⟩

/-- An index of the block's row is a half and a lane. -/
theorem exists_half (y : S1x2x128.Idx) : ∃ (h : Fin 2) (l : Fin 128), y = ix3 0 h l :=
  ⟨y 1, y 2, (eq_ix3 y).trans (congrArg (fun a => ix3 a (y 1) (y 2)) (Subsingleton.elim (α := Fin 1) _ _))⟩

/-- After the stores of both halves the block's row reads `G`. -/
theorem halves_read {e : EltTy} (G : S1x2x128.Idx → IVal e) {sp : Space} (v : View sig Kind.tc sp S1x2x128 e) (f : v.ty.Contents IVal)
    {w0 w1 : S1x1x128.Idx → IVal e}
    (inb1 : ∀ a, (![0, 1, 0] : Fin 3 → ℕ) a + (![1, 1, 128] : Fin 3 → ℕ) a ≤ (![1, 2, 128] : Fin 3 → ℕ) a)
    (inb0 : ∀ a, (![0, 0, 0] : Fin 3 → ℕ) a + (![1, 1, 128] : Fin 3 → ℕ) a ≤ (![1, 2, 128] : Fin 3 → ℕ) a)
    (h1 : ∀ l, w1 (ix3 0 0 l) = G (ix3 0 1 l)) (h0 : ∀ l, w0 (ix3 0 0 l) = G (ix3 0 0 l)) :
    v.read IVal (v.writes IVal f [⟨Rect.unit (s := S1x2x128) ![0, 1, 0] ![1, 1, 128] inb1, w1⟩, ⟨Rect.unit (s := S1x2x128) ![0, 0, 0] ![1, 1, 128] inb0, w0⟩]) = G := by
  have key (h : Fin 2) {o : Fin 3 → ℕ} (inb : ∀ a, o a + (![1, 1, 128] : Fin 3 → ℕ) a ≤ (![1, 2, 128] : Fin 3 → ℕ) a) (ho : o = ![0, h.val, 0])
      {w : S1x1x128.Idx → IVal e} (hw : ∀ l, w (ix3 0 0 l) = G (ix3 0 h l)) (x : S1x1x128.Idx) : w x = G ((Rect.unit (s := S1x2x128) o ![1, 1, 128] inb).emb x) := by
    obtain ⟨l, rfl⟩ : ∃ l : Fin 128, x = ix3 0 0 l := exists_unitLane x
    refine (hw l).trans ?_
    exact (congrArg G (idx_half inb ho l)).symm
  have hc (y : S1x2x128.Idx) : ∃ p ∈ ([⟨Rect.unit (s := S1x2x128) ![0, 1, 0] ![1, 1, 128] inb1, w1⟩, ⟨Rect.unit (s := S1x2x128) ![0, 0, 0] ![1, 1, 128] inb0, w0⟩] : List (View.Piece IVal S1x2x128 e)), y ∈ p.1.set := by
    obtain ⟨h, l, rfl⟩ := exists_half y
    fin_cases h
    · refine ⟨_, List.mem_cons_of_mem _ (List.mem_singleton_self _), ?_⟩
      exact (idx_half (h := 0) inb0 rfl l) ▸ LoadRect.idx_mem _ _
    · refine ⟨_, List.mem_cons_self, ?_⟩
      exact (idx_half (h := 1) inb1 rfl l) ▸ LoadRect.idx_mem _ _
  rw [View.read_writes_eq_canon v f _ hc]
  refine funext fun y => View.canon_apply_of_pieces G _ ?_ y (hc y)
  intro p hp
  rcases List.mem_cons.mp hp with rfl | hp
  · exact key 1 inb1 rfl h1
  · rw [List.mem_singleton.mp hp]; exact key 0 inb0 rfl h0

end Cert.KernelIdeal.Hand
end
end
-- ==== Proof.Diag.lean ====
module
public import proofs.«01_k».proof.Proof.VecOps

/-! From a column repeated over 128 lanes to a row of 128 lanes: the diagonal selected and summed. -/

@[expose] public section
set_option maxRecDepth 16384
noncomputable section
namespace Cert.KernelIdeal.Hand
open Idealize.ShloMosaic Cert.KernelIdeal Cert.KernelIdeal.Gen

/-- A sum over 128 rows that keeps the entries of the diagonal only. -/
theorem diag_sum (f : Fin 128 → EReal) (l : Fin 128) :
    (∑ x : Fin 128, Scalar.select (IntOp.cmpi CmpIPredicate.eq (BitVec.ofNat 32 x.val) (BitVec.ofNat 32 l.val)) (f x) 0) = f l := by
  rw [Finset.sum_eq_single l]
  · simp [Scalar.select, IntOp.cmpi]
  · intro x _ h
    have hne : BitVec.ofNat 32 x.val ≠ BitVec.ofNat 32 l.val := by
      intro e
      have e' := congrArg BitVec.toNat e
      simp only [BitVec.toNat_ofNat] at e'
      exact h (Fin.ext (by omega))
    simp [Scalar.select, IntOp.cmpi, beq_eq_false_iff_ne.mpr hne]
  · intro h; exact absurd (Finset.mem_univ l) h

/-- The first store of scales: each lane is the diagonal entry of its column. -/
theorem diag126 (v : Vec Ideal S128x128 .f32) (l : Fin 128) : k0_pay126 v (ix3 0 0 l) = v (ix2 l l) := by
  pointwise [k0_pay126, k0_pay125]
  exact diag_sum (fun x => v (ix2 x l)) l
/-- The second store of scales: the same. -/
theorem diag128 (v : Vec Ideal S128x128 .f32) (l : Fin 128) : k0_pay128 v (ix3 0 0 l) = v (ix2 l l) := by
  pointwise [k0_pay128, k0_pay125]
  exact diag_sum (fun x => v (ix2 x l)) l
/-- The first store of zero points: the diagonal entry, as an integer. -/
theorem diag127 (v : Vec Ideal S128x128 .f32) (l : Fin 128) : k0_pay127 v (ix3 0 0 l) = Ideal.fptosi 32 (v (ix2 l l)) := by
  pointwise [k0_pay127, k0_pay125]
  exact congrArg (Ideal.fptosi 32) (diag_sum (fun x => v (ix2 x l)) l)
/-- The second store of zero points: the same. -/
theorem diag1 (v : Vec Ideal S128x128 .f32) (l : Fin 128) : k0_pay1 k0_pay125 v (ix3 0 0 l) = Ideal.fptosi 32 (v (ix2 l l)) := by
  pointwise [k0_pay1, k0_pay125]
  exact congrArg (Ideal.fptosi 32) (diag_sum (fun x => v (ix2 x l)) l)

end Cert.KernelIdeal.Hand
end
end
-- ==== Proof.BodyRun.lean ====
module
public import proofs.«01_k».proof.Proof.Halves
public import proofs.«01_k».proof.Proof.Diag
public import proofs.«01_k».proof.Proof.Gen.KernelIdeal.Frame

/-! The kernel body's triple: what a grid point leaves in its four output blocks. -/

@[expose] public section
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

/-- The scales, two rows of 128. -/
def scaleO (x0 x1 : Vec Ideal S256x5120 .bf16) (x2 : Vec Ideal S1x5120 .bf16) : Vec Ideal S1x2x128 .f32 := fun i => Row.scale (rowY x0 x1 x2 (rowAt (i 1) (i 2)))
/-- The integer zero points, two rows of 128. -/
def zpO (x0 x1 : Vec Ideal S256x5120 .bf16) (x2 : Vec Ideal S1x5120 .bf16) : Vec Ideal S1x2x128 .i32 := fun i => Row.zpi (rowY x0 x1 x2 (rowAt (i 1) (i 2)))

set_option maxHeartbeats 1000000 in
/-- The body at a grid point: from the operand blocks and the weights, the sum, the codes, the scales and the zero points. -/
theorem kernelRun (c : Dev nD) (i : grid0.Coords) (arg1 : Memref sig .tc .vmem S256x5120 .bf16) (harg1 : arg1.IsWhole) (arg2 : Memref sig .tc .vmem S256x5120 .bf16) (harg2 : arg2.IsWhole) (arg3 : Memref sig .tc .vmem S1x5120 .bf16) (harg3 : arg3.IsWhole) (arg4 : Memref sig .tc .vmem S256x5120 .bf16) (harg4 : arg4.IsWhole) (arg5 : Memref sig .tc .vmem S256x5120 .i8) (harg5 : arg5.IsWhole) (arg6 : Memref sig .tc .vmem S1x2x128 .f32) (harg6 : arg6.IsWhole) (arg7 : Memref sig .tc .vmem S1x2x128 .i32) (harg7 : arg7.IsWhole) (arg8 : Memref sig .tc .vmem S32x5120 .f32) (harg8 : arg8.IsWhole) (arg9 : Memref sig .tc .vmem S256x128 .f32) (harg9 : arg9.IsWhole) (arg10 : Memref sig .tc .vmem S256x128 .f32) (harg10 : arg10.IsWhole)
    (x0 : Vec Ideal S256x5120 .bf16) (x1 : Vec Ideal S256x5120 .bf16) (x2 : Vec Ideal S1x5120 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare (sumB x0 x1) ∗ owns (c : Thread nD τ) arg5 fullShare (codeB x0 x1 x2) ∗ owns (c : Thread nD τ) arg6 fullShare (scaleO x0 x1 x2) ∗ owns (c : Thread nD τ) arg7 fullShare (zpO x0 x1 x2) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := Ideal)) Variants.none c none) E (cc0_add_rmsnorm_quant (F := Ideal) i arg1 harg1 arg2 harg2 arg3 harg3 arg4 harg4 arg5 harg5 arg6 harg6 arg7 harg7 arg8 harg8 arg9 harg9 arg10 harg10) K := by
    intro E K
    simp only [cc0_add_rmsnorm_quant_eq_skeleton]; unfold cc0_add_rmsnorm_quant_skel
    simp only [k0_part25_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    sl_exec
    sl_step
    obtain ⟨h4, h5, h9, h10⟩ := pb_done Variants.none c none i arg1 harg1 arg2 harg2 arg3 harg3 arg4 harg4 arg5 harg5 arg6 harg6 arg7 harg7 arg8 harg8 arg9 harg9 arg10 harg10
      (harg1.unread x0) (harg2.unread x1) (harg3.unread x2) f3 f4 fs0 fs1 fs2 (Scf.trips k0_t1_loop.lb k0_t1_loop.ub k0_t1_loop.st) (le_of_eq trips_eq)
    have ht : 32 * Scf.trips k0_t1_loop.lb k0_t1_loop.ub k0_t1_loop.st = 256 := congrArg (32 * ·) trips_eq
    rw [ht] at h4 h5 h9 h10
    simp only [G4, G5, G9, G10, hf0, hf1, hf2] at h4 h5 h9 h10
    iapply Hk
    isplitl [H0]
    · iexists (harg1.unread x0); isplitr
      · ipureintro; exact hf0
      · iexact H0
    isplitl [H1]
    · iexists (harg2.unread x1); isplitr
      · ipureintro; exact hf1
      · iexact H1
    isplitl [H2]
    · iexists (harg3.unread x2); isplitr
      · ipureintro; exact hf2
      · iexact H2
    isplitl [H3]
    · iexists _; isplitr
      on_goal 2 => iexact H3
      ipureintro; exact h4.read _ _
    isplitl [H4]
    · iexists _; isplitr
      on_goal 2 => iexact H4
      ipureintro; exact h5.read _ _
    isplitl [H5]
    · iexists _; isplitr
      on_goal 2 => iexact H5
      ipureintro
      refine halves_read (scaleO x0 x1 x2) arg6.view f5 _ _ (fun l => ?_) (fun l => ?_)
      · exact (diag128 _ l).trans (h9.half arg9.view fs1 1 _ rfl l l)
      · exact (diag126 _ l).trans (h9.half arg9.view fs1 0 _ rfl l l)
    isplitl [H6]
    · iexists _; isplitr
      on_goal 2 => iexact H6
      ipureintro
      refine halves_read (zpO x0 x1 x2) arg7.view f6 _ _ (fun l => ?_) (fun l => ?_)
      · exact (diag1 _ l).trans (congrArg (Ideal.fptosi 32) (h10.half arg10.view fs2 1 _ rfl l l))
      · exact (diag127 _ l).trans (congrArg (Ideal.fptosi 32) (h10.half arg10.view fs2 0 _ rfl l l))
    isplitl [HS0]
    · iexists _; iexists _; isplitr
      on_goal 2 => iexact HS0
      ipureintro; rfl
    isplitl [HS1]
    · iexists _; iexists _; isplitr
      on_goal 2 => iexact HS1
      ipureintro; rfl
    iexists _; iexists _; isplitr
    on_goal 2 => iexact HS2
    ipureintro; rfl

end Cert.KernelIdeal.Hand
end
end
-- ==== Proof.Region.lean ====
module
public import proofs.«01_k».proof.Proof.BodyRun
public import Idealize.ShloMosaic.Lib.Claim

/-! The kernel's pipeline with its outputs named: the proof data, the body at a grid point, the run, and the
arguments left as they were. -/

@[expose] public section
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The staging buffer of each window at a point. -/
abbrev ms0 (t : Fin cfg0.N) : Memref sig .tc .vmem S256x5120 .bf16 := win0_0.stage (cfg0.slots t 0)
/-- The second operand's. -/
abbrev ms1 (t : Fin cfg0.N) : Memref sig .tc .vmem S256x5120 .bf16 := win0_1.stage (cfg0.slots t 1)
/-- The weights'. -/
abbrev ms2 (t : Fin cfg0.N) : Memref sig .tc .vmem S1x5120 .bf16 := win0_2.stage (cfg0.slots t 2)
/-- The sum's. -/
abbrev ms3 (t : Fin cfg0.N) : Memref sig .tc .vmem S256x5120 .bf16 := win0_3.stage (cfg0.slots t 3)
/-- The codes'. -/
abbrev ms4 (t : Fin cfg0.N) : Memref sig .tc .vmem S256x5120 .i8 := win0_4.stage (cfg0.slots t 4)
/-- The scales'. -/
abbrev ms5 (t : Fin cfg0.N) : Memref sig .tc .vmem S1x2x128 .f32 := win0_5.stage (cfg0.slots t 5)
/-- The zero points'. -/
abbrev ms6 (t : Fin cfg0.N) : Memref sig .tc .vmem S1x2x128 .i32 := win0_6.stage (cfg0.slots t 6)
/-- The scratch buffers. -/
abbrev sc0 : Memref sig .tc .vmem S32x5120 .f32 := Memref.whole cc0_scratch0
/-- The scales' scratch, a row repeated over its lanes. -/
abbrev sc1 : Memref sig .tc .vmem S256x128 .f32 := Memref.whole cc0_scratch1
/-- The zero points' scratch. -/
abbrev sc2 : Memref sig .tc .vmem S256x128 .f32 := Memref.whole cc0_scratch2

/-- The invariant between points: the scratch buffers at some contents, and the generator register. -/
theorem inv_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The blocks of the three operands at a point. -/
abbrev bx (c : Dev nD) (t : Fin cfg0.N) : Vec Ideal S256x5120 .bf16 := iblk m c 0 t
/-- The second operand's block. -/
abbrev br (c : Dev nD) (t : Fin cfg0.N) : Vec Ideal S256x5120 .bf16 := iblk m c 1 t
/-- The weights' block. -/
abbrev bg (c : Dev nD) (t : Fin cfg0.N) : Vec Ideal S1x5120 .bf16 := iblk m c 2 t

/-- The pipeline's proof data: every output's block after the body is the block's value. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => sumB (bx m c t) (br m c t)
    | ⟨4, _⟩ => codeB (bx m c t) (br m c t) (bg m c t)
    | ⟨5, _⟩ => scaleO (bx m c t) (br m c t) (bg m c t)
    | ⟨6, _⟩ => zpO (bx m c t) (br m c t) (bg m c t)
  Φ _ := Pipeline.ΦA spec0 c
  q _ := fullShare
  owed _ := 0

/-- Every array starts as the region finds it. -/
theorem A_eq (c : Dev nD) (w : Fin cfg0.W) : (dats m 0 c).A w = V m c (Pipeline.arrRef spec0 w) := by dsimp only [dats]
/-- Operand 0 keeps its block. -/
theorem after_0 (c : Dev nD) (t : Fin cfg0.N) : (dats m 0 c).after 0 t = iblk m c 0 t := by dsimp only [dats]
/-- Operand 1 keeps its block. -/
theorem after_1 (c : Dev nD) (t : Fin cfg0.N) : (dats m 0 c).after 1 t = iblk m c 1 t := by dsimp only [dats]
/-- Operand 2 keeps its block. -/
theorem after_2 (c : Dev nD) (t : Fin cfg0.N) : (dats m 0 c).after 2 t = iblk m c 2 t := by dsimp only [dats]
/-- The sum's block after the body. -/
theorem after_3 (c : Dev nD) (t : Fin cfg0.N) : (dats m 0 c).after 3 t = sumB (bx m c t) (br m c t) := by dsimp only [dats]
/-- The codes' block after the body. -/
theorem after_4 (c : Dev nD) (t : Fin cfg0.N) : (dats m 0 c).after 4 t = codeB (bx m c t) (br m c t) (bg m c t) := by dsimp only [dats]
/-- The scales' block after the body. -/
theorem after_5 (c : Dev nD) (t : Fin cfg0.N) : (dats m 0 c).after 5 t = scaleO (bx m c t) (br m c t) (bg m c t) := by dsimp only [dats]
/-- The zero points' block after the body. -/
theorem after_6 (c : Dev nD) (t : Fin cfg0.N) : (dats m 0 c).after 6 t = zpO (bx m c t) (br m c t) (bg m c t) := by dsimp only [dats]

/-- Operand 0's buffer holds its block before the body. -/
theorem before_0 (c : Dev nD) (t : Fin cfg0.N) (d) : (dats m 0 c).before 0 t d = iblk m c 0 t :=
  before0_0_of m (dats m 0 c) (A_eq m c 0) (after_0 m c) t d
/-- Operand 1's buffer holds its block before the body. -/
theorem before_1 (c : Dev nD) (t : Fin cfg0.N) (d) : (dats m 0 c).before 1 t d = iblk m c 1 t :=
  before0_1_of m (dats m 0 c) (A_eq m c 1) (after_1 m c) t d
/-- Operand 2's buffer holds its block before the body. -/
theorem before_2 (c : Dev nD) (t : Fin cfg0.N) (d) : (dats m 0 c).before 2 t d = iblk m c 2 t :=
  before0_2_of m (dats m 0 c) (A_eq m c 2) (after_2 m c) t d

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 800000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = Pipeline.ΦA spec0 c from rfl, inv_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun c (grid0.coords t) _ _ _ _ _ _ _ _ _ _ _ _ _ _ _ _ _ _ _ _ (bx m c t) (br m c t) (bg m c t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body at a point is the kernel body on that point's buffers. -/
theorem defs_row (t : Fin cfg0.N) : defs₀ (F := Ideal) .tc cfg0.body (cfg0.bodyArgs t (cfg0.slots t)) = bodyAt0 t := by
  unfold defs₀; rw [Defs.onTc_tc]

/-- The pipeline's obligation of the body. -/
theorem body_obligation (c : Dev nD) : BodyObligation (dats m 0 c) (defs₀ (F := Ideal)) Variants.none () Set.univ := fun t => by
  rw [bigSep_W0, bigSep_W0, defs_row]
  exact triple_restated (sound_body m c t) rfl .rfl fun _ => .rfl

set_option backward.isDefEq.respectTransparency.types false in
set_option maxHeartbeats 800000 in
/-- The run: the arrays end at the pipeline's values, everything else at what the host operations leave; the counters end at zero. -/
theorem run_main_quiescent : θ_run defs (onTc (τ := τ) (main (F := Ideal))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := Ideal))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end unchanged and the counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Hand
end
end
-- ==== Proof.Result.lean ====
module
public import proofs.«01_k».proof.Proof.RowMath
public import Idealize.ShloMosaic.Lib.ValueIdxCoords

/-! The four results as functions of the three arguments: 21 batches of 1024 rows of 5120 numbers. -/

@[expose] public section
noncomputable section
namespace Cert.Row
open Idealize.ShloMosaic

/-- The shape of the operands. -/
abbrev SX : Shape := ⟨3, ![21, 1024, 5120]⟩
/-- The shape of the weights. -/
abbrev SG : Shape := ⟨1, ![5120]⟩
/-- The shape of one number a row. -/
abbrev SS : Shape := ⟨3, ![21, 1024, 1]⟩

variable (a0 a1 : Vec Ideal SX .bf16) (a2 : Vec Ideal SG .bf16)

/-- The sum of the operands. -/
def sumG : Vec Ideal SX .bf16 := fun i => (a0 i : EReal) + a1 i
/-- A normalised row of the sum. -/
def yG (b : Fin 21) (s : Fin 1024) : R := norm (fun C => sumG a0 a1 (ix3 b s C)) (fun C => a2 (ix1 C))
/-- The codes of the normalised rows, -/
def codeG : Vec Ideal SX .i8 := fun i => code (yG a0 a1 a2 (i 0) (i 1)) (i 2)
/-- their scales, -/
def scaleG : Vec Ideal SS .f32 := fun i => scale (yG a0 a1 a2 (i 0) (i 1))
/-- and their zero points. -/
def zpG : Vec Ideal SS .i32 := fun i => zpi (yG a0 a1 a2 (i 0) (i 1))

end Cert.Row
end
end
-- ==== Proof.Blocks.lean ====
module
public import proofs.«01_k».proof.Proof.Region
public import proofs.«01_k».proof.Proof.Result
public import Idealize.ShloMosaic.Lib.Pipeline.ValueKit

/-! The operands' blocks at a point, in the coordinates of the arguments. -/

@[expose] public section
set_option maxRecDepth 16384
noncomputable section
namespace Cert.KernelIdeal.Hand
open Cert.Row (sumG yG codeG scaleG zpG)
open Idealize.ShloMosaic Idealize.ShloMosaic.TcCoe Cert.KernelIdeal Cert.KernelIdeal.Gen

variable (m : (ℓ : Loc nD τ sig) → Buf (Elt Ideal) ℓ)

/-- The index maps: block `t` of the rows, and the weights' only block. -/
theorem idx (t : Fin cfg0.N) : win0_0.index t = ![t.val, 0] ∧ win0_1.index t = ![t.val, 0] ∧ win0_2.index t = ![0, 0]
    ∧ win0_3.index t = ![t.val, 0] ∧ win0_4.index t = ![t.val, 0] ∧ win0_5.index t = ![t.val, 0, 0] ∧ win0_6.index t = ![t.val, 0, 0] := by
  revert t; decide +kernel

/-- The arguments. -/
abbrev A0 (c : Dev nD) : Vec Ideal S21x1024x5120 .bf16 := m ((c : Thread nD τ).loc main_arg0)
/-- The second operand. -/
abbrev A1 (c : Dev nD) : Vec Ideal S21x1024x5120 .bf16 := m ((c : Thread nD τ).loc main_arg1)
/-- The weights. -/
abbrev A2 (c : Dev nD) : Vec Ideal S5120 .bf16 := m ((c : Thread nD τ).loc main_arg2)

/-- There are 84 blocks. -/
theorem t_lt (t : Fin cfg0.N) : t.val < 84 := lt_of_lt_of_eq t.isLt N_0

/-- Row `n` of all rows, as a batch and a position in it. -/
def nb (n : Fin 21504) : Fin 21 := ⟨n.val / 1024, by omega⟩
/-- Its position in the batch. -/
def ns (n : Fin 21504) : Fin 1024 := ⟨n.val % 1024, by omega⟩
/-- Row `R` of block `t` among all rows. -/
def nOf (t : Fin cfg0.N) (R : Fin 256) : Fin 21504 := ⟨256 * t.val + R.val, by have := t_lt t; omega⟩

/-- The operands as rows: what the host leaves before the region. -/
theorem V_v0 (c : Dev nD) : (V m c main_v0 : Vec Ideal S21504x5120 .bf16) = shapeCast S21504x5120 (A0 m c) shapeCasts_S21x1024x5120_S21504x5120 := by
  entry_read
  try rfl
/-- The second operand as rows. -/
theorem V_v1 (c : Dev nD) : (V m c main_v1 : Vec Ideal S21504x5120 .bf16) = shapeCast S21504x5120 (A1 m c) shapeCasts_S21x1024x5120_S21504x5120 := by
  entry_read
  try rfl
/-- The weights as one row. -/
theorem V_v2 (c : Dev nD) : (V m c main_v2 : Vec Ideal S1x5120 .bf16) = shapeCast S1x5120 (A2 m c) shapeCasts_S5120_S1x5120 := by
  entry_read
  try rfl

/-- An element of the first operand's block. -/
theorem bx_at (c : Dev nD) (t : Fin cfg0.N) (R : Fin 256) (C : Fin 5120) : bx m c t (ix2 R C) = A0 m c (ix3 (nb (nOf t R)) (ns (nOf t R)) C) := by
  have e : ((cfg0.win 0).blk t).view.emb (ix2 R C) = ix2 (nOf t R) C := by blk_ext [idx t, nOf]
  show (V m c main_v0 : Vec Ideal S21504x5120 .bf16) (((cfg0.win 0).blk t).view.emb (ix2 R C)) = _
  rw [e, V_v0]
  pointwise []
  rfl
/-- An element of the second operand's block. -/
theorem br_at (c : Dev nD) (t : Fin cfg0.N) (R : Fin 256) (C : Fin 5120) : br m c t (ix2 R C) = A1 m c (ix3 (nb (nOf t R)) (ns (nOf t R)) C) := by
  have e : ((cfg0.win 1).blk t).view.emb (ix2 R C) = ix2 (nOf t R) C := by blk_ext [idx t, nOf]
  show (V m c main_v1 : Vec Ideal S21504x5120 .bf16) (((cfg0.win 1).blk t).view.emb (ix2 R C)) = _
  rw [e, V_v1]
  pointwise []
  rfl
/-- An element of the weights' block. -/
theorem bg_at (c : Dev nD) (t : Fin cfg0.N) (C : Fin 5120) : bg m c t (ix2 0 C) = A2 m c (ix1 C) := by
  have e : ((cfg0.win 2).blk t).view.emb (ix2 0 C) = ix2 0 C := by blk_ext [idx t]
  show (V m c main_v2 : Vec Ideal S1x5120 .bf16) (((cfg0.win 2).blk t).view.emb (ix2 0 C)) = _
  rw [e, V_v2]
  pointwise []

/-- The sum at a block's element is the arguments' sum there, -/
theorem sumB_at (c : Dev nD) (t : Fin cfg0.N) (R : Fin 256) (C : Fin 5120) :
    sumB (bx m c t) (br m c t) (ix2 R C) = sumG (A0 m c) (A1 m c) (ix3 (nb (nOf t R)) (ns (nOf t R)) C) :=
  congrArg₂ (fun a b : EReal => a + b) (bx_at m c t R C) (br_at m c t R C)

/-- and a block's normalised row is the arguments'. -/
theorem rowY_eq (c : Dev nD) (t : Fin cfg0.N) (R : Fin 256) :
    rowY (bx m c t) (br m c t) (bg m c t) R = yG (A0 m c) (A1 m c) (A2 m c) (nb (nOf t R)) (ns (nOf t R)) :=
  congrArg₂ Row.norm (funext fun C => sumB_at m c t R C) (funext fun C => bg_at m c t C)

end Cert.KernelIdeal.Hand
end
end
-- ==== Proof.Arrays.lean ====
module
public import proofs.«01_k».proof.Proof.Blocks

/-! What the four output arrays hold after all blocks, and the results after the closing reshapes. -/

@[expose] public section
set_option maxRecDepth 16384
noncomputable section
namespace Cert.KernelIdeal.Hand
open Cert.Row (sumG yG codeG scaleG zpG)
open Idealize.ShloMosaic Idealize.ShloMosaic.TcCoe Cert.KernelIdeal Cert.KernelIdeal.Gen

variable (m : (ℓ : Loc nD τ sig) → Buf (Elt Ideal) ℓ)

/-- The normalised row `n` of all rows. -/
abbrev yN (c : Dev nD) (n : Fin 21504) : Row.R := yG (A0 m c) (A1 m c) (A2 m c) (nb n) (ns n)
/-- The row of a lane of the scales' array. -/
def lin (j : S84x2x128.Idx) : Fin 21504 :=
  ⟨256 * (j 0).val + 128 * (j 1).val + (j 2).val, by
    have h0 : (j 0).val < 84 := (j 0).isLt
    have h1 : (j 1).val < 2 := (j 1).isLt
    have h2 : (j 2).val < 128 := (j 2).isLt
    omega⟩

/-- The sum, the codes, the scales and the zero points, as the blocks lay them out. -/
def sumW (c : Dev nD) : Vec Ideal S21504x5120 .bf16 := fun j => sumG (A0 m c) (A1 m c) (ix3 (nb (j 0)) (ns (j 0)) (j 1))
/-- The codes, row by row. -/
def codeW (c : Dev nD) : Vec Ideal S21504x5120 .i8 := fun j => Row.code (yN m c (j 0)) (j 1)
/-- The scales, 128 rows to a line of lanes. -/
def scaleW (c : Dev nD) : Vec Ideal S84x2x128 .f32 := fun j => Row.scale (yN m c (lin j))
/-- The integer zero points, laid out as the scales. -/
def zpW (c : Dev nD) : Vec Ideal S84x2x128 .i32 := fun j => Row.zpi (yN m c (lin j))

/-- Lane `l` of half `h` of block `t` holds row `128 h + l` of the block. -/
theorem lin_eq (t : Fin cfg0.N) (h : Fin 2) (l : Fin 128) : lin (ix3 ⟨t.val, t_lt t⟩ h l) = nOf t (rowAt h l) :=
  Fin.ext (Nat.add_assoc _ _ _)

/-- Each output array after the region. -/
theorem arr3 (c : Dev nD) : (dats m 0 c).arrAt 3 cfg0.N = sumW m c := by
  refine (dats m 0 c).arrAt_eq_of_covers 3 _ (by decide +kernel) fun t hf y => ?_
  blk_simp
  rw [after_3]
  obtain ⟨R, C, rfl⟩ : ∃ (R : Fin 256) (C : Fin 5120), y = ix2 R C := ⟨y 0, y 1, eq_ix2 y⟩
  have e : (win0_3.blk t).view.emb (ix2 R C) = ix2 (nOf t R) C := by blk_ext [idx t, nOf]
  exact (sumB_at m c t R C).trans (congrArg (sumW m c) e).symm
/-- The second holds the codes. -/
theorem arr4 (c : Dev nD) : (dats m 0 c).arrAt 4 cfg0.N = codeW m c := by
  refine (dats m 0 c).arrAt_eq_of_covers 4 _ (by decide +kernel) fun t hf y => ?_
  blk_simp
  rw [after_4]
  obtain ⟨R, C, rfl⟩ : ∃ (R : Fin 256) (C : Fin 5120), y = ix2 R C := ⟨y 0, y 1, eq_ix2 y⟩
  have e : (win0_4.blk t).view.emb (ix2 R C) = ix2 (nOf t R) C := by blk_ext [idx t, nOf]
  exact (congrArg (fun r => Row.code r C) (rowY_eq m c t R)).trans (congrArg (codeW m c) e).symm
/-- The third holds the scales. -/
theorem arr5 (c : Dev nD) : (dats m 0 c).arrAt 5 cfg0.N = scaleW m c := by
  refine (dats m 0 c).arrAt_eq_of_covers 5 _ (by decide +kernel) fun t hf y => ?_
  blk_simp
  rw [after_5]
  obtain ⟨h, l, rfl⟩ := exists_half y
  have e : (win0_5.blk t).view.emb (ix3 0 h l) = ix3 ⟨t.val, t_lt t⟩ h l := by blk_ext [idx t]
  exact (congrArg Row.scale ((rowY_eq m c t (rowAt h l)).trans (congrArg (yN m c) (lin_eq t h l).symm))).trans (congrArg (scaleW m c) e).symm
/-- The fourth holds the zero points. -/
theorem arr6 (c : Dev nD) : (dats m 0 c).arrAt 6 cfg0.N = zpW m c := by
  refine (dats m 0 c).arrAt_eq_of_covers 6 _ (by decide +kernel) fun t hf y => ?_
  blk_simp
  rw [after_6]
  obtain ⟨h, l, rfl⟩ := exists_half y
  have e : (win0_6.blk t).view.emb (ix3 0 h l) = ix3 ⟨t.val, t_lt t⟩ h l := by blk_ext [idx t]
  exact (congrArg Row.zpi ((rowY_eq m c t (rowAt h l)).trans (congrArg (yN m c) (lin_eq t h l).symm))).trans (congrArg (zpW m c) e).symm

/-- The buffers after the region, before the closing reshapes. -/
abbrev exitV (c : Dev nD) : Valuation τ sig (Elt Ideal) :=
  Pipeline.withArrays (cfgs 0).spec c (V0 m c) fun w => (dats m 0 c).arrAt w (cfgs 0).N
/-- A window's array, read from them, is what the pipeline left there. -/
theorem exit_arr (c : Dev nD) (w : Fin cfg0.W) : exitV m c (Proc.devRef .tc (Pipeline.arrRef spec0 w)) = (dats m 0 c).arrAt w (cfgs 0).N :=
  Pipeline.withArrays_arr spec0 launch0.win.arr_inj c (V0 m c) (fun w => (dats m 0 c).arrAt w (cfgs 0).N) w

/-- What the closing reshapes leave. -/
theorem tail4 (c : Dev nD) : (Pipeline.afterTail₀ cfgs (dats m) 0 (V0 m) [hostOps1] c main_v4 : Vec Ideal S21x1024x5120 .bf16)
    = shapeCast S21x1024x5120 (sumW m c) shapeCasts_S21504x5120_S21x1024x5120 := by
  show StableHlo.after hostOps1 (exitV m c) (Proc.devRef .tc main_v4) = _
  have h := (exit_arr m c 3).trans (arr3 m c)
  generalize exitV m c = V at h ⊢
  after_results
  exact congrArg (fun X : Vec Ideal S21504x5120 .bf16 => shapeCast S21x1024x5120 X shapeCasts_S21504x5120_S21x1024x5120) h
/-- The second result is the codes, reshaped. -/
theorem tail5 (c : Dev nD) : (Pipeline.afterTail₀ cfgs (dats m) 0 (V0 m) [hostOps1] c main_v5 : Vec Ideal S21x1024x5120 .i8)
    = shapeCast S21x1024x5120 (codeW m c) shapeCasts_S21504x5120_S21x1024x5120 := by
  show StableHlo.after hostOps1 (exitV m c) (Proc.devRef .tc main_v5) = _
  have h := (exit_arr m c 4).trans (arr4 m c)
  generalize exitV m c = V at h ⊢
  after_results
  exact congrArg (fun X : Vec Ideal S21504x5120 .i8 => shapeCast S21x1024x5120 X shapeCasts_S21504x5120_S21x1024x5120) h
/-- The third result is the scales, reshaped. -/
theorem tail6 (c : Dev nD) : (Pipeline.afterTail₀ cfgs (dats m) 0 (V0 m) [hostOps1] c main_v6 : Vec Ideal S21x1024x1 .f32)
    = shapeCast S21x1024x1 (scaleW m c) shapeCasts_S84x2x128_S21x1024x1 := by
  show StableHlo.after hostOps1 (exitV m c) (Proc.devRef .tc main_v6) = _
  have h := (exit_arr m c 5).trans (arr5 m c)
  generalize exitV m c = V at h ⊢
  after_results
  exact congrArg (fun X : Vec Ideal S84x2x128 .f32 => shapeCast S21x1024x1 X shapeCasts_S84x2x128_S21x1024x1) h
/-- The fourth result is the zero points, reshaped. -/
theorem tail7 (c : Dev nD) : (Pipeline.afterTail₀ cfgs (dats m) 0 (V0 m) [hostOps1] c main_v7 : Vec Ideal S21x1024x1 .i32)
    = shapeCast S21x1024x1 (zpW m c) shapeCasts_S84x2x128_S21x1024x1 := by
  show StableHlo.after hostOps1 (exitV m c) (Proc.devRef .tc main_v7) = _
  have h := (exit_arr m c 6).trans (arr6 m c)
  generalize exitV m c = V at h ⊢
  after_results
  exact congrArg (fun X : Vec Ideal S84x2x128 .i32 => shapeCast S21x1024x1 X shapeCasts_S84x2x128_S21x1024x1) h

/-- Row `s` of batch `b` among all rows. -/
def nAt (b : Fin 21) (s : Fin 1024) : Fin 21504 := ⟨1024 * b.val + s.val, by omega⟩
/-- Its batch is `b`, -/
theorem nb_nAt (b : Fin 21) (s : Fin 1024) : nb (nAt b s) = b := Fin.ext (by show (1024 * b.val + s.val) / 1024 = b.val; omega)
/-- and its position there is `s`. -/
theorem ns_nAt (b : Fin 21) (s : Fin 1024) : ns (nAt b s) = s := Fin.ext (by show (1024 * b.val + s.val) % 1024 = s.val; omega)

/-- An array of rows, reshaped to batches. -/
theorem rows_cast {α : Type} (X : S21504x5120.Idx → α) (i : S21x1024x5120.Idx) :
    shapeCast S21x1024x5120 X shapeCasts_S21504x5120_S21x1024x5120 i = X (ix2 (nAt (i 0) (i 1)) (i 2)) :=
  shapeCast_apply X _ i _ (by
    rw [Shape.rowMajor_val_two, Shape.rowMajor_val_three]
    show (1024 * (i 0).val + (i 1).val) * 5120 + (i 2).val = ((i 0).val * 1024 + (i 1).val) * 5120 + (i 2).val
    omega)

/-- A row's place in the scales' array. -/
def laneOf (n : Fin 21504) : S84x2x128.Idx := ix3 ⟨n.val / 256, by omega⟩ ⟨n.val / 128 % 2, by omega⟩ ⟨n.val % 128, by omega⟩
/-- The row of a row's lane is that row. -/
theorem lin_laneOf (n : Fin 21504) : lin (laneOf n) = n :=
  Fin.ext (by show 256 * (n.val / 256) + 128 * (n.val / 128 % 2) + n.val % 128 = n.val; omega)
/-- An array of lanes, reshaped to batches. -/
theorem lanes_cast {α : Type} (X : S84x2x128.Idx → α) (i : S21x1024x1.Idx) :
    shapeCast S21x1024x1 X shapeCasts_S84x2x128_S21x1024x1 i = X (laneOf (nAt (i 0) (i 1))) :=
  shapeCast_apply X _ i _ (by
    have h2 : (i 2).val < 1 := (i 2).isLt
    rw [Shape.rowMajor_val_three, Shape.rowMajor_val_three]
    show ((1024 * (i 0).val + (i 1).val) / 256 * 2 + (1024 * (i 0).val + (i 1).val) / 128 % 2) * 128 + (1024 * (i 0).val + (i 1).val) % 128
      = ((i 0).val * 1024 + (i 1).val) * 1 + (i 2).val
    omega)

/-- The normalised row at batch `b`, position `s`. -/
theorem yN_nAt (c : Dev nD) (b : Fin 21) (s : Fin 1024) : yN m c (nAt b s) = yG (A0 m c) (A1 m c) (A2 m c) b s :=
  congrArg₂ (yG (A0 m c) (A1 m c) (A2 m c)) (nb_nAt b s) (ns_nAt b s)

/-- The four results of the kernel. -/
theorem res4 (c : Dev nD) : (Pipeline.afterTail₀ cfgs (dats m) 0 (V0 m) [hostOps1] c main_v4 : Vec Ideal S21x1024x5120 .bf16) = sumG (A0 m c) (A1 m c) := by
  rw [tail4]
  funext i
  rw [rows_cast]
  exact congrArg (sumG (A0 m c) (A1 m c)) ((congrArg₂ (fun b s => ix3 b s (i 2)) (nb_nAt (i 0) (i 1)) (ns_nAt (i 0) (i 1))).trans (eq_ix3 i).symm)
/-- The second is the codes. -/
theorem res5 (c : Dev nD) : (Pipeline.afterTail₀ cfgs (dats m) 0 (V0 m) [hostOps1] c main_v5 : Vec Ideal S21x1024x5120 .i8) = codeG (A0 m c) (A1 m c) (A2 m c) := by
  rw [tail5]
  funext i
  rw [rows_cast]
  exact congrArg (fun y => Row.code y (i 2)) (yN_nAt m c (i 0) (i 1))
/-- The third is the scales. -/
theorem res6 (c : Dev nD) : (Pipeline.afterTail₀ cfgs (dats m) 0 (V0 m) [hostOps1] c main_v6 : Vec Ideal S21x1024x1 .f32) = scaleG (A0 m c) (A1 m c) (A2 m c) := by
  rw [tail6]
  funext i
  rw [lanes_cast]
  exact congrArg Row.scale ((congrArg (yN m c) (lin_laneOf _)).trans (yN_nAt m c (i 0) (i 1)))
/-- The fourth is the zero points. -/
theorem res7 (c : Dev nD) : (Pipeline.afterTail₀ cfgs (dats m) 0 (V0 m) [hostOps1] c main_v7 : Vec Ideal S21x1024x1 .i32) = zpG (A0 m c) (A1 m c) (A2 m c) := by
  rw [tail7]
  funext i
  rw [lanes_cast]
  exact congrArg Row.zpi ((congrArg (yN m c) (lin_laneOf _)).trans (yN_nAt m c (i 0) (i 1)))

end Cert.KernelIdeal.Hand
end
end
-- ==== Proof.RefOps.lean ====
module
public import proofs.«01_k».proof.Proof.Gen.ReferenceIdeal.Skeleton
public import proofs.«01_k».proof.Proof.Result
public import Idealize.ShloMosaic.Lib.Pointwise

/-! The reference's whole-array expressions, at an index. -/

@[expose] public section
set_option maxRecDepth 16384
noncomputable section
namespace Cert.ReferenceIdeal.Hand
open Cert.Row (sumG yG codeG scaleG zpG)
open Idealize.ShloMosaic Cert.ReferenceIdeal Cert.ReferenceIdeal.Gen

variable (v0 v2 : Vec Ideal S21x1024x5120 .bf16) (v18 : Vec Ideal S5120 .bf16)

/-- Every row's maximum. -/
def maxV (y : FVec Ideal S21x1024x5120 .f32) : FVec Ideal S21x1024x1 .f32 :=
  shapeCast S21x1024x1 (multiReduction .maximumf [2] S21x1024 y 0xFF800000#32 reduces_S21x1024x5120_S21x1024 (.inl rfl) rfl) shapeCasts_S21x1024_S21x1024x1

/-- A row's maximum. -/
theorem maxV_at (y : FVec Ideal S21x1024x5120 .f32) (b : Fin 21) (s : Fin 1024) :
    maxV y (ix3 b s 0) = Row.hi fun c => y (ix3 b s c) := by
  pointwise [maxV, Row.hi]

/-- The scales, from the minima and the maxima. -/
def scaleV {S : Shape} (l h : FVec Ideal S .f32) : FVec Ideal S .f32 :=
  select (cmpf .oeq h l) (broadcast S (Scalar.ofBits .f32 0x3F800000#32)) (divf (subf h l) (broadcast S (Scalar.ofBits .f32 0x437F0000#32)))

/-- A scale is that of its minimum and maximum. -/
theorem scaleV_at {S : Shape} (l h : FVec Ideal S .f32) (i : S.Idx) : scaleV l h i = Row.scaleOf (l i) (h i) := by
  pointwise [scaleV, Row.scaleOf]

/-- The zero points before their upper bound, from the minima and the scales. -/
def lowV {S : Shape} (l w : FVec Ideal S .f32) : FVec Ideal S .f32 :=
  maximumf (broadcast S (Scalar.ofBits .f32 0xC3000000#32)) (roundeven (subf (broadcast S (Scalar.ofBits .f32 0xC3000000#32)) (divf l w)))

/-- A zero point before its upper bound, as a number. -/
theorem lowV_at {S : Shape} (l w : FVec Ideal S .f32) (i : S.Idx) :
    lowV l w i = max Row.cLo (Ideal.liftRound Ideal.roundHalfEven (Row.cLo - Ideal.div (l i) (w i))) := by
  pointwise [lowV, Row.cLo]

/-- The codes, from the normalised elements, the scales and the zero points. -/
theorem code_gen (y : FVec Ideal S21x1024x5120 .f32) (w v : FVec Ideal S21x1024x1 .f32) (b : Fin 21) (s : Fin 1024) (c : Fin 5120) :
    k0_pay2 y w (Scalar.ofBits .f32 0x42FE0000#32) v (ix3 b s c)
      = Ideal.fptosi 8 (Row.clipOf (y (ix3 b s c)) (w (ix3 b s 0)) (min Row.cHi (v (ix3 b s 0)))) := by
  pointwise [k0_pay2, k0_pay1, Row.clipOf, Row.cHi, Row.cLo]
  rfl

/-- The integer zero points, from the zero points. -/
theorem zpi_gen (v : FVec Ideal S21x1024x1 .f32) (b : Fin 21) (s : Fin 1024) :
    k0_pay3 (Scalar.ofBits .f32 0x42FE0000#32) v (ix3 b s 0) = Ideal.fptosi 32 (min Row.cHi (v (ix3 b s 0))) := by
  pointwise [k0_pay3, k0_pay1, Row.cHi]
  rfl

/-- The sum. -/
theorem sum_at (b : Fin 21) (s : Fin 1024) (c : Fin 5120) : k0_pay4 v0 v2 (ix3 b s c) = sumG v0 v2 (ix3 b s c) := by
  pointwise [k0_pay4, sumG]

/-- A normalised element. -/
theorem y_at (b : Fin 21) (s : Fin 1024) (c : Fin 5120) : k0_pay5 v0 v2 v18 (ix3 b s c) = yG v0 v2 v18 b s c := by
  pointwise [k0_pay5, k0_pay4, yG, sumG, Row.norm, Row.inv, Row.invOf]

/-- A row's minimum. -/
theorem lo_at (b : Fin 21) (s : Fin 1024) : k0_pay6 v0 v2 v18 (ix3 b s 0) = Row.lo (yG v0 v2 v18 b s) := by
  have h : k0_pay6 v0 v2 v18 (ix3 b s 0) = Row.lo fun c => k0_pay5 v0 v2 v18 (ix3 b s c) := by
    unfold k0_pay6
    generalize k0_pay5 v0 v2 v18 = y
    pointwise [Row.lo]
  rw [h]
  exact congrArg Row.lo (funext fun c => y_at v0 v2 v18 b s c)

/-- The scales, from the minima and the normalised elements. -/
theorem pay7_eq : k0_pay7 v0 v2 v18 = scaleV (k0_pay6 v0 v2 v18) (maxV (k0_pay5 v0 v2 v18)) := by
  unfold k0_pay7
  generalize k0_pay6 v0 v2 v18 = z
  generalize k0_pay5 v0 v2 v18 = y
  rfl

/-- The zero points before their upper bound, from the minima and the scales. -/
theorem pay8_eq : k0_pay8 v0 v2 v18 = lowV (k0_pay6 v0 v2 v18) (k0_pay7 v0 v2 v18) := by
  unfold k0_pay8
  generalize k0_pay6 v0 v2 v18 = z
  generalize k0_pay7 v0 v2 v18 = y
  rfl

/-- A row's scale. -/
theorem scale_at (b : Fin 21) (s : Fin 1024) : k0_pay7 v0 v2 v18 (ix3 b s 0) = Row.scale (yG v0 v2 v18 b s) :=
  ((congrFun (pay7_eq v0 v2 v18) _).trans (scaleV_at _ _ _)).trans
    (congrArg₂ Row.scaleOf (lo_at v0 v2 v18 b s)
      ((maxV_at _ b s).trans (congrArg Row.hi (funext fun c => y_at v0 v2 v18 b s c))))

/-- The zero point before its upper bound. -/
theorem low_at (b : Fin 21) (s : Fin 1024) : k0_pay8 v0 v2 v18 (ix3 b s 0)
    = max Row.cLo (Ideal.liftRound Ideal.roundHalfEven (Row.cLo - Ideal.div (Row.lo (yG v0 v2 v18 b s)) (Row.scale (yG v0 v2 v18 b s)))) :=
  ((congrFun (pay8_eq v0 v2 v18) _).trans (lowV_at _ _ _)).trans
    (congrArg₂ (fun l w => max Row.cLo (Ideal.liftRound Ideal.roundHalfEven (Row.cLo - Ideal.div l w)))
      (lo_at v0 v2 v18 b s) (scale_at v0 v2 v18 b s))

/-- The zero point. -/
theorem zp_at (b : Fin 21) (s : Fin 1024) : min Row.cHi (k0_pay8 v0 v2 v18 (ix3 b s 0)) = Row.zp (yG v0 v2 v18 b s) :=
  congrArg (min Row.cHi) (low_at v0 v2 v18 b s)

/-- The integer zero point. -/
theorem zpi_at (b : Fin 21) (s : Fin 1024) :
    k0_pay3 (Scalar.ofBits .f32 0x42FE0000#32) (k0_pay8 v0 v2 v18) (ix3 b s 0) = Row.zpi (yG v0 v2 v18 b s) :=
  (zpi_gen _ b s).trans (congrArg (Ideal.fptosi 32) (zp_at v0 v2 v18 b s))

/-- A code. -/
theorem code_at (b : Fin 21) (s : Fin 1024) (c : Fin 5120) :
    k0_pay2 (k0_pay5 v0 v2 v18) (k0_pay7 v0 v2 v18) (Scalar.ofBits .f32 0x42FE0000#32) (k0_pay8 v0 v2 v18) (ix3 b s c)
      = Row.code (yG v0 v2 v18 b s) c := by
  refine (code_gen _ _ _ b s c).trans ?_
  rw [y_at, scale_at, zp_at]
  rfl

end Cert.ReferenceIdeal.Hand
end
end
-- ==== Proof.RefValue.lean ====
module
public import proofs.«01_k».proof.Proof.Gen.ReferenceIdeal.Frame
public import proofs.«01_k».proof.Proof.RefOps
public import Idealize.ShloMosaic.Lib.Pipeline.ValueKit

/-! What the reference leaves in its four results. -/

@[expose] public section
set_option maxRecDepth 16384
noncomputable section
namespace Cert.ReferenceIdeal.Hand
open Cert.Row (sumG yG codeG scaleG zpG)
open Idealize.ShloMosaic Idealize.ShloMosaic.TcCoe Cert.ReferenceIdeal Cert.ReferenceIdeal.Gen

/-- Three zero offsets. -/
theorem z3 : (![0, 0, 0] : Fin 3 → ℕ) = fun _ => 0 := by funext a; fin_cases a <;> rfl
/-- One zero offset. -/
theorem z1 : (![0] : Fin 1 → ℕ) = fun _ => 0 := by funext a; fin_cases a; rfl

section
variable (x0 x1 : Vec Ideal S21x1024x5120 .bf16) (x2 : Vec Ideal S5120 .bf16)

/-- A load of a whole array reads it. -/
theorem ld0 (x : Vec Ideal S21x1024x5120 .bf16) : View.ld x r0_0 = x := View.ld_unit_zero (S := S21x1024x5120) z3 _ x
/-- A load of all the weights reads them. -/
theorem ld1 (x : Vec Ideal S5120 .bf16) : View.ld x r0_1 = x := View.ld_unit_zero (S := S5120) z1 _ x

/-- The last axis of the rows' numbers has one place. -/
theorem exists_row (i : S21x1024x1.Idx) : ∃ (b : Fin 21) (s : Fin 1024), i = ix3 b s 0 :=
  ⟨i 0, i 1, (eq_ix3 i).trans (congrArg (ix3 (i 0) (i 1)) (Subsingleton.elim (α := Fin 1) _ _))⟩

/-- What the body leaves in each output's buffer, as a function of the operands. -/
theorem out3 : out0_3 x0 x1 x2 = sumG x0 x1 := by
  refine (View.canon_unit_zero (S := S21x1024x5120) z3 _ _).trans ?_
  rw [ld0, ld0]
  funext i
  obtain ⟨b, s, c, rfl⟩ : ∃ (b : Fin 21) (s : Fin 1024) (c : Fin 5120), i = ix3 b s c := ⟨i 0, i 1, i 2, eq_ix3 i⟩
  exact sum_at x0 x1 b s c
/-- The second is the codes. -/
theorem out4 : out0_4 x0 x1 x2 = codeG x0 x1 x2 := by
  refine (View.canon_unit_zero (S := S21x1024x5120) z3 _ _).trans ?_
  unfold k0_pay9 k0_pay10
  rw [ld0, ld0, ld1]
  funext i
  obtain ⟨b, s, c, rfl⟩ : ∃ (b : Fin 21) (s : Fin 1024) (c : Fin 5120), i = ix3 b s c := ⟨i 0, i 1, i 2, eq_ix3 i⟩
  exact code_at x0 x1 x2 b s c
/-- The third is the scales. -/
theorem out5 : out0_5 x0 x1 x2 = scaleG x0 x1 x2 := by
  refine (View.canon_unit_zero (S := S21x1024x1) z3 _ _).trans ?_
  unfold k0_pay9
  rw [ld0, ld0, ld1]
  funext i
  obtain ⟨b, s, rfl⟩ := exists_row i
  exact scale_at x0 x1 x2 b s
/-- The fourth is the zero points. -/
theorem out6 : out0_6 x0 x1 x2 = zpG x0 x1 x2 := by
  refine (View.canon_unit_zero (S := S21x1024x1) z3 _ _).trans ?_
  unfold k0_pay10
  rw [ld0, ld0, ld1]
  funext i
  obtain ⟨b, s, rfl⟩ := exists_row i
  exact zpi_at x0 x1 x2 b s
end

variable (m : (ℓ : Loc nD τ sig) → Buf (Elt Ideal) ℓ)

/-- The arguments. -/
abbrev A0 (c : Dev nD) : Vec Ideal S21x1024x5120 .bf16 := m ((c : Thread nD τ).loc main_arg0)
/-- The second operand. -/
abbrev A1 (c : Dev nD) : Vec Ideal S21x1024x5120 .bf16 := m ((c : Thread nD τ).loc main_arg1)
/-- The weights. -/
abbrev A2 (c : Dev nD) : Vec Ideal S5120 .bf16 := m ((c : Thread nD τ).loc main_arg2)

/-- Every window's only block is its whole array. -/
theorem idx (t : Fin cfg0.N) : win0_0.index t = ![0, 0, 0] ∧ win0_1.index t = ![0, 0, 0] ∧ win0_2.index t = ![0]
    ∧ win0_3.index t = ![0, 0, 0] ∧ win0_4.index t = ![0, 0, 0] ∧ win0_5.index t = ![0, 0, 0] ∧ win0_6.index t = ![0, 0, 0] := by
  revert t; decide +kernel

/-- The operands' blocks are the arguments. -/
theorem blk0 (c : Dev nD) (t : Fin cfg0.N) : (iblk m c 0 t : Vec Ideal S21x1024x5120 .bf16) = A0 m c := by
  funext i
  have e : ((cfg0.win 0).blk t).view.emb i = i := by blk_ext [idx t]
  exact congrArg (A0 m c) e
/-- The second operand's block is the operand. -/
theorem blk1 (c : Dev nD) (t : Fin cfg0.N) : (iblk m c 1 t : Vec Ideal S21x1024x5120 .bf16) = A1 m c := by
  funext i
  have e : ((cfg0.win 1).blk t).view.emb i = i := by blk_ext [idx t]
  exact congrArg (A1 m c) e
/-- The weights' block is the weights. -/
theorem blk2 (c : Dev nD) (t : Fin cfg0.N) : (iblk m c 2 t : Vec Ideal S5120 .bf16) = A2 m c := by
  funext i
  have e : ((cfg0.win 2).blk t).view.emb i = i := by blk_ext [idx t]
  exact congrArg (A2 m c) e

/-- The four results of the reference. -/
theorem arr3 (c : Dev nD) : (dats m 0 c).arrAt 3 cfg0.N = sumG (A0 m c) (A1 m c) := by
  refine (dats m 0 c).arrAt_eq_of_covers 3 _ (by decide +kernel) fun t hf y => ?_
  blk_simp
  have e : (win0_3.blk t).view.emb y = y := by blk_ext [idx t]
  rw [after0_3, blk0, blk1, blk2, out3]
  exact (congrArg (sumG (A0 m c) (A1 m c)) e).symm
/-- The second is the codes. -/
theorem arr4 (c : Dev nD) : (dats m 0 c).arrAt 4 cfg0.N = codeG (A0 m c) (A1 m c) (A2 m c) := by
  refine (dats m 0 c).arrAt_eq_of_covers 4 _ (by decide +kernel) fun t hf y => ?_
  blk_simp
  have e : (win0_4.blk t).view.emb y = y := by blk_ext [idx t]
  rw [after0_4, blk0, blk1, blk2, out4]
  exact (congrArg (codeG (A0 m c) (A1 m c) (A2 m c)) e).symm
/-- The third is the scales. -/
theorem arr5 (c : Dev nD) : (dats m 0 c).arrAt 5 cfg0.N = scaleG (A0 m c) (A1 m c) (A2 m c) := by
  refine (dats m 0 c).arrAt_eq_of_covers 5 _ (by decide +kernel) fun t hf y => ?_
  blk_simp
  have e : (win0_5.blk t).view.emb y = y := by blk_ext [idx t]
  rw [after0_5, blk0, blk1, blk2, out5]
  exact (congrArg (scaleG (A0 m c) (A1 m c) (A2 m c)) e).symm
/-- The fourth is the zero points. -/
theorem arr6 (c : Dev nD) : (dats m 0 c).arrAt 6 cfg0.N = zpG (A0 m c) (A1 m c) (A2 m c) := by
  refine (dats m 0 c).arrAt_eq_of_covers 6 _ (by decide +kernel) fun t hf y => ?_
  blk_simp
  have e : (win0_6.blk t).view.emb y = y := by blk_ext [idx t]
  rw [after0_6, blk0, blk1, blk2, out6]
  exact (congrArg (zpG (A0 m c) (A1 m c) (A2 m c)) e).symm

end Cert.ReferenceIdeal.Hand
end
end
-- ==== Proof.lean ====
module

public import proofs.«01_k».proof.Defs
public import proofs.«01_k».proof.Proof.FrameRun
public import proofs.«01_k».proof.Proof.Arrays
public import proofs.«01_k».proof.Proof.RefValue

@[expose] public section

noncomputable section

namespace Cert.Proof

open Idealize.ShloMosaic Idealize.ShloMosaic.TcCoe Idealize.SL.Sem
open Cert.Row (sumG codeG scaleG zpG)

/-- The kernel ends with the sum, the codes, the scales and the zero points of its arguments, which it leaves unchanged. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v4)
            = sumG (Cert.KernelIdeal.Hand.A0 m c) (Cert.KernelIdeal.Hand.A1 m c)
        ∧ r.2.mem ((c.tc : Thread Cert.KernelIdeal.nD Cert.KernelIdeal.τ).loc Cert.KernelIdeal.main_v5)
            = codeG (Cert.KernelIdeal.Hand.A0 m c) (Cert.KernelIdeal.Hand.A1 m c) (Cert.KernelIdeal.Hand.A2 m c)
        ∧ r.2.mem ((c.tc : Thread Cert.KernelIdeal.nD Cert.KernelIdeal.τ).loc Cert.KernelIdeal.main_v6)
            = scaleG (Cert.KernelIdeal.Hand.A0 m c) (Cert.KernelIdeal.Hand.A1 m c) (Cert.KernelIdeal.Hand.A2 m c)
        ∧ r.2.mem ((c.tc : Thread Cert.KernelIdeal.nD Cert.KernelIdeal.τ).loc Cert.KernelIdeal.main_v7)
            = zpG (Cert.KernelIdeal.Hand.A0 m c) (Cert.KernelIdeal.Hand.A1 m c) (Cert.KernelIdeal.Hand.A2 m c)
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2)) :=
  (θ_run _ _ _).mono (fun _ h c =>
    ⟨((h c).2 Cert.KernelIdeal.main_v4 (Pipeline.mem_restRefs_of Cert.KernelIdeal.main_v4 (by decide) (by decide))).trans (Cert.KernelIdeal.Hand.res4 m c),
     ((h c).2 Cert.KernelIdeal.main_v5 (Pipeline.mem_restRefs_of Cert.KernelIdeal.main_v5 (by decide) (by decide))).trans (Cert.KernelIdeal.Hand.res5 m c),
     ((h c).2 Cert.KernelIdeal.main_v6 (Pipeline.mem_restRefs_of Cert.KernelIdeal.main_v6 (by decide) (by decide))).trans (Cert.KernelIdeal.Hand.res6 m c),
     ((h c).2 Cert.KernelIdeal.main_v7 (Pipeline.mem_restRefs_of Cert.KernelIdeal.main_v7 (by decide) (by decide))).trans (Cert.KernelIdeal.Hand.res7 m c),
     ((h c).2 Cert.KernelIdeal.main_arg0 (Pipeline.mem_restRefs_of Cert.KernelIdeal.main_arg0 (by decide) (by decide))).trans
       (Cert.KernelIdeal.Gen.W_main_arg0 m (Cert.KernelIdeal.Hand.dats m) c),
     ((h c).2 Cert.KernelIdeal.main_arg1 (Pipeline.mem_restRefs_of Cert.KernelIdeal.main_arg1 (by decide) (by decide))).trans
       (Cert.KernelIdeal.Gen.W_main_arg1 m (Cert.KernelIdeal.Hand.dats m) c),
     ((h c).2 Cert.KernelIdeal.main_arg2 (Pipeline.mem_restRefs_of Cert.KernelIdeal.main_arg2 (by decide) (by decide))).trans
       (Cert.KernelIdeal.Gen.W_main_arg2 m (Cert.KernelIdeal.Hand.dats m) c)⟩)
    (Cert.KernelIdeal.Hand.run_main m g)

/-- The reference ends with the sum, the codes, the scales and the zero points of its arguments, which it leaves unchanged. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v0_0)
            = sumG (Cert.ReferenceIdeal.Hand.A0 m c) (Cert.ReferenceIdeal.Hand.A1 m c)
        ∧ r.2.mem ((c.tc : Thread Cert.ReferenceIdeal.nD Cert.ReferenceIdeal.τ).loc Cert.ReferenceIdeal.main_v0_1)
            = codeG (Cert.ReferenceIdeal.Hand.A0 m c) (Cert.ReferenceIdeal.Hand.A1 m c) (Cert.ReferenceIdeal.Hand.A2 m c)
        ∧ r.2.mem ((c.tc : Thread Cert.ReferenceIdeal.nD Cert.ReferenceIdeal.τ).loc Cert.ReferenceIdeal.main_v0_2)
            = scaleG (Cert.ReferenceIdeal.Hand.A0 m c) (Cert.ReferenceIdeal.Hand.A1 m c) (Cert.ReferenceIdeal.Hand.A2 m c)
        ∧ r.2.mem ((c.tc : Thread Cert.ReferenceIdeal.nD Cert.ReferenceIdeal.τ).loc Cert.ReferenceIdeal.main_v0_3)
            = zpG (Cert.ReferenceIdeal.Hand.A0 m c) (Cert.ReferenceIdeal.Hand.A1 m c) (Cert.ReferenceIdeal.Hand.A2 m c)
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)) :=
  (θ_run _ _ _).mono (fun _ h c =>
    ⟨((h c).1 3).trans (Cert.ReferenceIdeal.Hand.arr3 m c), ((h c).1 4).trans (Cert.ReferenceIdeal.Hand.arr4 m c),
     ((h c).1 5).trans (Cert.ReferenceIdeal.Hand.arr5 m c), ((h c).1 6).trans (Cert.ReferenceIdeal.Hand.arr6 m c),
     ((h c).1 0).trans (((Cert.ReferenceIdeal.Gen.dats m 0 c).arrAt_in 0 rfl _).trans
       ((Cert.ReferenceIdeal.Gen.A_eq m c 0).trans (Cert.ReferenceIdeal.Gen.V_main_arg0 m c))),
     ((h c).1 1).trans (((Cert.ReferenceIdeal.Gen.dats m 0 c).arrAt_in 1 rfl _).trans
       ((Cert.ReferenceIdeal.Gen.A_eq m c 1).trans (Cert.ReferenceIdeal.Gen.V_main_arg1 m c))),
     ((h c).1 2).trans (((Cert.ReferenceIdeal.Gen.dats m 0 c).arrAt_in 2 rfl _).trans
       ((Cert.ReferenceIdeal.Gen.A_eq m c 2).trans (Cert.ReferenceIdeal.Gen.V_main_arg2 m c)))⟩)
    (Cert.ReferenceIdeal.Gen.run_main m g)

/-- Equal arguments, equal results: both programs end with the same function of their arguments. -/
theorem same_results : Cert.algebraic_KernelIdeal_ReferenceIdeal
    (hKernelIdeal := Cert.KernelIdeal.Gen.facts) (hReferenceIdeal := Cert.ReferenceIdeal.Gen.facts) := by
  intro m g m' g' _ hm
  refine ⟨fun c => sumG (Cert.KernelIdeal.Hand.A0 m c) (Cert.KernelIdeal.Hand.A1 m c),
    fun c => codeG (Cert.KernelIdeal.Hand.A0 m c) (Cert.KernelIdeal.Hand.A1 m c) (Cert.KernelIdeal.Hand.A2 m c),
    fun c => scaleG (Cert.KernelIdeal.Hand.A0 m c) (Cert.KernelIdeal.Hand.A1 m c) (Cert.KernelIdeal.Hand.A2 m c),
    fun c => zpG (Cert.KernelIdeal.Hand.A0 m c) (Cert.KernelIdeal.Hand.A1 m c) (Cert.KernelIdeal.Hand.A2 m c),
    kernel_run m g, (θ_run _ _ _).mono (fun _ h c => ?_) (reference_run m' g')⟩
  obtain ⟨e0, e1, e2⟩ := hm c
  have a0 : Cert.ReferenceIdeal.Hand.A0 m' c = Cert.KernelIdeal.Hand.A0 m c := e0
  have a1 : Cert.ReferenceIdeal.Hand.A1 m' c = Cert.KernelIdeal.Hand.A1 m c := e1
  have a2 : Cert.ReferenceIdeal.Hand.A2 m' c = Cert.KernelIdeal.Hand.A2 m c := e2
  have h := h c
  rw [a0, a1, a2] at h
  exact h

/-- The claim. -/
theorem claim : Cert.Claim :=
  ⟨Cert.Kernel.Gen.facts, Cert.KernelIdeal.Gen.facts, Cert.ReferenceIdeal.Gen.facts,
    fun m g _ => Cert.Kernel.Hand.frame m g, fun m g _ => Cert.KernelIdeal.Hand.frame m g,
    fun m g _ => Cert.ReferenceIdeal.Gen.frame m g, trivial, same_results⟩

end Cert.Proof

end
